-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_range [hPre_setup_range : Cert.Pre_setup_range.Facts] (m : (ℓ : Loc Cert.KernelIdeal.nD Cert.KernelIdeal.τ Cert.KernelIdeal.sig) → Buf (Elt Ideal) ℓ) : Prop :=
  ∀ c : Dev Cert.KernelIdeal.nD,
    (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_range [hPre_setup_range : Cert.Pre_setup_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_setup_range [hKernelIdeal : Cert.KernelIdeal.Facts] [hPre_setup_range : Cert.Pre_setup_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_setup_range [hReferenceIdeal : Cert.ReferenceIdeal.Facts] [hPre_setup_range : Cert.Pre_setup_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_setup_range [hKernelIdeal : Cert.KernelIdeal.Facts] [hReferenceIdeal : Cert.ReferenceIdeal.Facts] [hPre_setup_range : Cert.Pre_setup_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_setup_range : Cert.Pre_setup_range.Facts),
    quiescent_Kernel (hKernel := hKernel)
    ∧ quiescent_KernelIdeal (hKernelIdeal := hKernelIdeal)
    ∧ quiescent_KernelIdeal_pre_setup_range (hKernelIdeal := hKernelIdeal) (hPre_setup_range := hPre_setup_range)
    ∧ quiescent_ReferenceIdeal (hReferenceIdeal := hReferenceIdeal)
    ∧ quiescent_ReferenceIdeal_pre_setup_range (hReferenceIdeal := hReferenceIdeal) (hPre_setup_range := hPre_setup_range)
    ∧ preserves_Kernel_KernelIdeal
    ∧ algebraic_KernelIdeal_ReferenceIdeal_pre_setup_range (hKernelIdeal := hKernelIdeal) (hReferenceIdeal := hReferenceIdeal) (hPre_setup_range := hPre_setup_range)
-- ==== Pre_setup_range.lean ====
abbrev S4096x110 : Shape := ⟨2, ![4096, 110]⟩
abbrev S1000000x64 : Shape := ⟨2, ![1000000, 64]⟩
abbrev S1000000x1 : Shape := ⟨2, ![1000000, 1]⟩
abbrev S1 : Shape := ⟨1, ![1]⟩
abbrev S10x64 : Shape := ⟨2, ![10, 64]⟩
abbrev S10x1 : Shape := ⟨2, ![10, 1]⟩
abbrev S_ : Shape := ⟨0, ![]⟩

class Facts : Prop where
  bcast_S_S4096x110 : S_.BroadcastsInDim S4096x110 (![] : Fin 0 → Fin S4096x110.rank)
  slices_S1000000x64_S10x64_0_0 : S1000000x64.Slices ![0, 0] S10x64
  bcast_S_S10x64 : S_.BroadcastsInDim S10x64 (![] : Fin 0 → Fin S10x64.rank)
  slices_S1000000x1_S10x1_0_0 : S1000000x1.Slices ![0, 0] S10x1
  bcast_S_S10x1 : S_.BroadcastsInDim S10x1 (![] : Fin 0 → Fin S10x1.rank)

variable [Facts]

def fn_part1 {F : FTy → Type} [FloatOps F] (main_arg6 : FVec F S10x1 .f32) (main_v4 : IVec S4096x110 1) (main_v7 : IVec S4096x110 1) (main_v11 : IVec S10x64 1) (main_v15 : IVec S10x1 1) (main_v16 : FVec F S10x64 .f32) (main_v17 : FVec F S10x64 .f32) : IVec S4096x110 1 × IVec S4096x110 1 × IVec S10x64 1 × IVec S10x1 1 × IVec S10x64 1 × IVec S10x1 1 :=
  let main_v18 : IVec S10x64 1 := cmpf .olt main_v16 main_v17
  let main_v19 : FVec F S10x1 .f32 := Host.absf main_arg6
  let main_cst_4 : FVec F S_ .f32 := constant S_ .f32 0x7F800000#32
  let main_v20 : FVec F S10x1 .f32 := broadcastInDim S10x1 ![] bcast_S_S10x1 main_cst_4
  let main_v21 : IVec S10x1 1 := cmpf .olt main_v19 main_v20
  (main_v4, main_v7, main_v11, main_v15, main_v18, main_v21)

def fn {F : FTy → Type} [FloatOps F] (main_arg0 : IVec S4096x110 32) (main_arg1 : FVec F S4096x110 .f32) (main_arg2 : FVec F S1000000x64 .f32) (main_arg3 : FVec F S1000000x1 .f32) (main_arg4 : FVec F S1 .f32) (main_arg5 : FVec F S10x64 .f32) (main_arg6 : FVec F S10x1 .f32) : IVec S4096x110 1 × IVec S4096x110 1 × IVec S10x64 1 × IVec S10x1 1 × IVec S10x64 1 × IVec S10x1 1 :=
  let main_c : IVec S_ 32 := constantI S_ 32 0#32
  let main_v0 : IVec S4096x110 32 := broadcastInDim S4096x110 ![] bcast_S_S4096x110 main_c
  let main_v1 : IVec S4096x110 1 := cmpi .sge main_arg0 main_v0
  let main_c_0 : IVec S_ 32 := constantI S_ 32 10#32
  let main_v2 : IVec S4096x110 32 := broadcastInDim S4096x110 ![] bcast_S_S4096x110 main_c_0
  let main_v3 : IVec S4096x110 1 := cmpi .slt main_arg0 main_v2
  let main_v4 : IVec S4096x110 1 := andi main_v1 main_v3
  let main_v5 : FVec F S4096x110 .f32 := Host.absf main_arg1
  let main_cst : FVec F S_ .f32 := constant S_ .f32 0x7F800000#32
  let main_v6 : FVec F S4096x110 .f32 := broadcastInDim S4096x110 ![] bcast_S_S4096x110 main_cst
  let main_v7 : IVec S4096x110 1 := cmpf .olt main_v5 main_v6
  let main_v8 : FVec F S10x64 .f32 := (extractStridedSlice S10x64 ![0, 0] · slices_S1000000x64_S10x64_0_0) main_arg2
  let main_v9 : FVec F S10x64 .f32 := Host.absf main_v8
  let main_cst_1 : FVec F S_ .f32 := constant S_ .f32 0x7F800000#32
  let main_v10 : FVec F S10x64 .f32 := broadcastInDim S10x64 ![] bcast_S_S10x64 main_cst_1
  let main_v11 : IVec S10x64 1 := cmpf .olt main_v9 main_v10
  let main_v12 : FVec F S10x1 .f32 := (extractStridedSlice S10x1 ![0, 0] · slices_S1000000x1_S10x1_0_0) main_arg3
  let main_v13 : FVec F S10x1 .f32 := Host.absf main_v12
  let main_cst_2 : FVec F S_ .f32 := constant S_ .f32 0x7F800000#32
  let main_v14 : FVec F S10x1 .f32 := broadcastInDim S10x1 ![] bcast_S_S10x1 main_cst_2
  let main_v15 : IVec S10x1 1 := cmpf .olt main_v13 main_v14
  let main_v16 : FVec F S10x64 .f32 := Host.absf main_arg5
  let main_cst_3 : FVec F S_ .f32 := constant S_ .f32 0x7F800000#32
  let main_v17 : FVec F S10x64 .f32 := broadcastInDim S10x64 ![] bcast_S_S10x64 main_cst_3
  fn_part1 (F := F) main_arg6 main_v4 main_v7 main_v11 main_v15 main_v16 main_v17
-- ==== Kernel.lean ====
abbrev S4096x110 : Shape := ⟨2, ![4096, 110]⟩
abbrev S1000000x64 : Shape := ⟨2, ![1000000, 64]⟩
abbrev S1000000x1 : Shape := ⟨2, ![1000000, 1]⟩
abbrev S1 : Shape := ⟨1, ![1]⟩
abbrev S10x64 : Shape := ⟨2, ![10, 64]⟩
abbrev S10x1 : Shape := ⟨2, ![10, 1]⟩
abbrev S110x4096 : Shape := ⟨2, ![110, 4096]⟩
abbrev S4096x10 : Shape := ⟨2, ![4096, 10]⟩
abbrev S10x4096 : Shape := ⟨2, ![10, 4096]⟩
abbrev S64x10 : Shape := ⟨2, ![64, 10]⟩
abbrev S_ : Shape := ⟨0, ![]⟩
abbrev S64x16 : Shape := ⟨2, ![64, 16]⟩
abbrev S10 : Shape := ⟨1, ![10]⟩
abbrev S1x10 : Shape := ⟨2, ![1, 10]⟩
abbrev S1x32 : Shape := ⟨2, ![1, 32]⟩
abbrev S2x10 : Shape := ⟨2, ![2, 10]⟩
abbrev S1x1 : Shape := ⟨2, ![1, 1]⟩
abbrev S1x4096 : Shape := ⟨2, ![1, 4096]⟩
abbrev S1x10x4096 : Shape := ⟨3, ![1, 10, 4096]⟩
abbrev S1x1x1 : Shape := ⟨3, ![1, 1, 1]⟩
abbrev S2x110 : Shape := ⟨2, ![2, 110]⟩
abbrev S2x4096 : Shape := ⟨2, ![2, 4096]⟩
abbrev S12x4096 : Shape := ⟨2, ![12, 4096]⟩
abbrev S32x4096 : Shape := ⟨2, ![32, 4096]⟩
abbrev S16x32 : Shape := ⟨2, ![16, 32]⟩
abbrev S16x16 : Shape := ⟨2, ![16, 16]⟩
abbrev S64x32 : Shape := ⟨2, ![64, 32]⟩
abbrev S64x4096 : Shape := ⟨2, ![64, 4096]⟩
abbrev S1x64 : Shape := ⟨2, ![1, 64]⟩
abbrev S4096 : Shape := ⟨1, ![4096]⟩

abbrev nBuf : Space → Nat
  | .hbm => 33
  | .vmem => 9
  | .smem => 0
  | _ => 0

abbrev bufTy : (tb : Table) → Fin (tcTables nBuf tb) → BufTy
  | .hbm, ⟨0, _⟩ => ⟨S4096x110, .i32⟩
  | .hbm, ⟨1, _⟩ => ⟨S4096x110, .f32⟩
  | .hbm, ⟨2, _⟩ => ⟨S1000000x64, .f32⟩
  | .hbm, ⟨3, _⟩ => ⟨S1000000x1, .f32⟩
  | .hbm, ⟨4, _⟩ => ⟨S1, .f32⟩
  | .hbm, ⟨5, _⟩ => ⟨S10x64, .f32⟩
  | .hbm, ⟨6, _⟩ => ⟨S10x1, .f32⟩
  | .hbm, ⟨7, _⟩ => ⟨S110x4096, .i32⟩
  | .hbm, ⟨8, _⟩ => ⟨S110x4096, .bf16⟩
  | .hbm, ⟨9, _⟩ => ⟨S110x4096, .f32⟩
  | .hbm, ⟨10, _⟩ => ⟨S110x4096, .bf16⟩
  | .hbm, ⟨11, _⟩ => ⟨S4096x10, .i32⟩
  | .hbm, ⟨12, _⟩ => ⟨S10x4096, .i32⟩
  | .hbm, ⟨13, _⟩ => ⟨S10x64, .f32⟩
  | .hbm, ⟨14, _⟩ => ⟨S64x10, .f32⟩
  | .hbm, ⟨15, _⟩ => ⟨S_, .i32⟩
  | .hbm, ⟨16, _⟩ => ⟨S_, .f32⟩
  | .hbm, ⟨17, _⟩ => ⟨S64x16, .f32⟩
  | .hbm, ⟨18, _⟩ => ⟨S64x10, .f32⟩
  | .hbm, ⟨19, _⟩ => ⟨S_, .i32⟩
  | .hbm, ⟨20, _⟩ => ⟨S_, .f32⟩
  | .hbm, ⟨21, _⟩ => ⟨S64x16, .f32⟩
  | .hbm, ⟨22, _⟩ => ⟨S10x1, .f32⟩
  | .hbm, ⟨23, _⟩ => ⟨S10, .f32⟩
  | .hbm, ⟨24, _⟩ => ⟨S1x10, .f32⟩
  | .hbm, ⟨25, _⟩ => ⟨S_, .f32⟩
  | .hbm, ⟨26, _⟩ => ⟨S1x32, .f32⟩
  | .hbm, ⟨27, _⟩ => ⟨S10, .f32⟩
  | .hbm, ⟨28, _⟩ => ⟨S1x10, .f32⟩
  | .hbm, ⟨29, _⟩ => ⟨S2x10, .f32⟩
  | .hbm, ⟨30, _⟩ => ⟨S1x1, .f32⟩
  | .hbm, ⟨31, _⟩ => ⟨S1x4096, .f32⟩
  | .hbm, ⟨32, _⟩ => ⟨S4096, .f32⟩
  | .local _ .vmem, ⟨0, _⟩ => ⟨S110x4096, .bf16⟩
  | .local _ .vmem, ⟨1, _⟩ => ⟨S110x4096, .bf16⟩
  | .local _ .vmem, ⟨2, _⟩ => ⟨S10x4096, .i32⟩
  | .local _ .vmem, ⟨3, _⟩ => ⟨S64x16, .f32⟩
  | .local _ .vmem, ⟨4, _⟩ => ⟨S64x16, .f32⟩
  | .local _ .vmem, ⟨5, _⟩ => ⟨S1x32, .f32⟩
  | .local _ .vmem, ⟨6, _⟩ => ⟨S2x10, .f32⟩
  | .local _ .vmem, ⟨7, _⟩ => ⟨S1x1, .f32⟩
  | .local _ .vmem, ⟨8, _⟩ => ⟨S1x4096, .f32⟩
  | _, _ => ⟨S4096x110, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S110x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S110x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4096x110 : Shape := ⟨2, ![4096, 110]⟩
abbrev S1000000x64 : Shape := ⟨2, ![1000000, 64]⟩
abbrev S1000000x1 : Shape := ⟨2, ![1000000, 1]⟩
abbrev S1 : Shape := ⟨1, ![1]⟩
abbrev S10x64 : Shape := ⟨2, ![10, 64]⟩
abbrev S10x1 : Shape := ⟨2, ![10, 1]⟩
abbrev S4096x10 : Shape := ⟨2, ![4096, 10]⟩
abbrev S_ : Shape := ⟨0, ![]⟩
abbrev S4096x10x1 : Shape := ⟨3, ![4096, 10, 1]⟩
abbrev S1x1x1 : Shape := ⟨3, ![1, 1, 1]⟩
abbrev S4096x10x64 : Shape := ⟨3, ![4096, 10, 64]⟩
abbrev S1x10x1 : Shape := ⟨3, ![1, 10, 1]⟩
abbrev S4096x110x1 : Shape := ⟨3, ![4096, 110, 1]⟩
abbrev S4096x13 : Shape := ⟨2, ![4096, 13]⟩
abbrev S4096x13x1 : Shape := ⟨3, ![4096, 13, 1]⟩
abbrev S4096x13x64 : Shape := ⟨3, ![4096, 13, 64]⟩
abbrev S4096x23x64 : Shape := ⟨3, ![4096, 23, 64]⟩
abbrev S4096x64 : Shape := ⟨2, ![4096, 64]⟩
abbrev S4096x1x64 : Shape := ⟨3, ![4096, 1, 64]⟩
abbrev S4096x110x64 : Shape := ⟨3, ![4096, 110, 64]⟩
abbrev S4096x111x64 : Shape := ⟨3, ![4096, 111, 64]⟩
abbrev S4096 : Shape := ⟨1, ![4096]⟩
abbrev S4096x1 : Shape := ⟨2, ![4096, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S4096x110, .i32⟩
  | 1 => ⟨S4096x110, .f32⟩
  | 2 => ⟨S1000000x64, .f32⟩
  | 3 => ⟨S1000000x1, .f32⟩
  | 4 => ⟨S1, .f32⟩
  | 5 => ⟨S10x64, .f32⟩
  | 6 => ⟨S10x1, .f32⟩
  | 7 => ⟨S4096x10, .i32⟩
  | 8 => ⟨S_, .i32⟩
  | 9 => ⟨S_, .i32⟩
  | 10 => ⟨S4096x10, .i32⟩
  | 11 => ⟨S4096x10, .i32⟩
  | 12 => ⟨S_, .i32⟩
  | 13 => ⟨S4096x10, .i32⟩
  | 14 => ⟨S4096x10, .i1⟩
  | 15 => ⟨S_, .i32⟩
  | 16 => ⟨S4096x10, .i32⟩
  | 17 => ⟨S4096x10, .i32⟩
  | 18 => ⟨S4096x10, .i32⟩
  | 19 => ⟨S4096x10x1, .i32⟩
  | 20 => ⟨S1, .i32⟩
  | 21 => ⟨S_, .i32⟩
  | 22 => ⟨S4096x10x1, .i32⟩
  | 23 => ⟨S4096x10x1, .i1⟩
  | 24 => ⟨S1x1x1, .i32⟩
  | 25 => ⟨S4096x10x1, .i32⟩
  | 26 => ⟨S4096x10x1, .i1⟩
  | 27 => ⟨S4096x10x1, .i1⟩
  | 28 => ⟨S_, .i1⟩
  | 29 => ⟨S4096x10, .i1⟩
  | 30 => ⟨S4096x10x64, .f32⟩
  | 31 => ⟨S4096x10x64, .i1⟩
  | 32 => ⟨S_, .f32⟩
  | 33 => ⟨S4096x10x64, .f32⟩
  | 34 => ⟨S4096x10x64, .f32⟩
  | 35 => ⟨S1x10x1, .f32⟩
  | 36 => ⟨S4096x10x64, .f32⟩
  | 37 => ⟨S4096x10x64, .f32⟩
  | 38 => ⟨S4096x110x1, .f32⟩
  | 39 => ⟨S4096x13, .i32⟩
  | 40 => ⟨S_, .i32⟩
  | 41 => ⟨S4096x13, .i32⟩
  | 42 => ⟨S4096x13, .i1⟩
  | 43 => ⟨S_, .i32⟩
  | 44 => ⟨S4096x13, .i32⟩
  | 45 => ⟨S4096x13, .i32⟩
  | 46 => ⟨S4096x13, .i32⟩
  | 47 => ⟨S4096x13x1, .i32⟩
  | 48 => ⟨S1, .i32⟩
  | 49 => ⟨S_, .i32⟩
  | 50 => ⟨S4096x13x1, .i32⟩
  | 51 => ⟨S4096x13x1, .i1⟩
  | 52 => ⟨S1x1x1, .i32⟩
  | 53 => ⟨S4096x13x1, .i32⟩
  | 54 => ⟨S4096x13x1, .i1⟩
  | 55 => ⟨S4096x13x1, .i1⟩
  | 56 => ⟨S_, .i1⟩
  | 57 => ⟨S4096x13, .i1⟩
  | 58 => ⟨S4096x13x64, .f32⟩
  | 59 => ⟨S4096x13x64, .i1⟩
  | 60 => ⟨S_, .f32⟩
  | 61 => ⟨S4096x13x64, .f32⟩
  | 62 => ⟨S4096x13x64, .f32⟩
  | 63 => ⟨S4096x13x1, .f32⟩
  | 64 => ⟨S4096x13x64, .f32⟩
  | 65 => ⟨S4096x13x64, .f32⟩
  | 66 => ⟨S4096x23x64, .f32⟩
  | 67 => ⟨S_, .f32⟩
  | 68 => ⟨S4096x64, .f32⟩
  | 69 => ⟨S4096x64, .f32⟩
  | 70 => ⟨S4096x23x64, .f32⟩
  | 71 => ⟨S_, .f32⟩
  | 72 => ⟨S4096x64, .f32⟩
  | 73 => ⟨S4096x64, .f32⟩
  | 74 => ⟨S_, .f32⟩
  | 75 => ⟨S4096x64, .f32⟩
  | 76 => ⟨S4096x64, .f32⟩
  | 77 => ⟨S4096x1x64, .f32⟩
  | 78 => ⟨S_, .i32⟩
  | 79 => ⟨S4096x110, .i32⟩
  | 80 => ⟨S4096x110, .i1⟩
  | 81 => ⟨S_, .i32⟩
  | 82 => ⟨S4096x110, .i32⟩
  | 83 => ⟨S4096x110, .i32⟩
  | 84 => ⟨S4096x110, .i32⟩
  | 85 => ⟨S4096x110x1, .i32⟩
  | 86 => ⟨S1, .i32⟩
  | 87 => ⟨S_, .i32⟩
  | 88 => ⟨S4096x110x1, .i32⟩
  | 89 => ⟨S4096x110x1, .i1⟩
  | 90 => ⟨S1x1x1, .i32⟩
  | 91 => ⟨S4096x110x1, .i32⟩
  | 92 => ⟨S4096x110x1, .i1⟩
  | 93 => ⟨S4096x110x1, .i1⟩
  | 94 => ⟨S_, .i1⟩
  | 95 => ⟨S4096x110, .i1⟩
  | 96 => ⟨S4096x110x64, .f32⟩
  | 97 => ⟨S4096x110x64, .i1⟩
  | 98 => ⟨S_, .f32⟩
  | 99 => ⟨S4096x110x64, .f32⟩
  | 100 => ⟨S4096x110x64, .f32⟩
  | 101 => ⟨S4096x110x64, .f32⟩
  | 102 => ⟨S4096x110x64, .f32⟩
  | 103 => ⟨S4096x111x64, .f32⟩
  | 104 => ⟨S_, .f32⟩
  | 105 => ⟨S4096x64, .f32⟩
  | 106 => ⟨S4096x64, .f32⟩
  | 107 => ⟨S4096x111x64, .f32⟩
  | 108 => ⟨S_, .f32⟩
  | 109 => ⟨S4096x64, .f32⟩
  | 110 => ⟨S4096x64, .f32⟩
  | 111 => ⟨S_, .f32⟩
  | 112 => ⟨S4096x64, .f32⟩
  | 113 => ⟨S4096x64, .f32⟩
  | 114 => ⟨S_, .f32⟩
  | 115 => ⟨S4096, .f32⟩
  | 116 => ⟨S4096x1, .f32⟩
  | 117 => ⟨S_, .i32⟩
  | 118 => ⟨S4096x110, .i32⟩
  | 119 => ⟨S4096x110, .i1⟩
  | 120 => ⟨S_, .i32⟩
  | 121 => ⟨S4096x110, .i32⟩
  | 122 => ⟨S4096x110, .i32⟩
  | 123 => ⟨S4096x110, .i32⟩
  | 124 => ⟨S4096x110x1, .i32⟩
  | 125 => ⟨S1, .i32⟩
  | 126 => ⟨S_, .i32⟩
  | 127 => ⟨S4096x110x1, .i32⟩
  | _ => ⟨S4096x110, .i32⟩

abbrev hbmTy0_1 (i : Nat) : BufTy := match i % 128 with
  | 0 => ⟨S4096x110x1, .i1⟩
  | 1 => ⟨S1x1x1, .i32⟩
  | 2 => ⟨S4096x110x1, .i32⟩
  | 3 => ⟨S4096x110x1, .i1⟩
  | 4 => ⟨S4096x110x1, .i1⟩
  | 5 => ⟨S_, .i1⟩
  | 6 => ⟨S4096x110, .i1⟩
  | 7 => ⟨S4096x110x1, .f32⟩
  | 8 => ⟨S4096x110x1, .i1⟩
  | 9 => ⟨S_, .f32⟩
  | 10 => ⟨S4096x110x1, .f32⟩
  | 11 => ⟨S4096x110x1, .f32⟩
  | 12 => ⟨S4096x110x1, .f32⟩
  | 13 => ⟨S_, .f32⟩
  | 14 => ⟨S4096x1, .f32⟩
  | 15 => ⟨S4096x1, .f32⟩
  | 16 => ⟨S1x1, .f32⟩
  | 17 => ⟨S4096x1, .f32⟩
  | 18 => ⟨S4096x1, .f32⟩
  | 19 => ⟨S4096, .f32⟩
  | _ => ⟨S4096x110, .i32⟩

abbrev hbmTy (i : Nat) : BufTy := match i / 128 with
  | 0 => hbmTy0_0 i
  | 1 => hbmTy0_1 i
  | _ => ⟨S4096x110, .i32⟩

abbrev bufTy : (tb : Table) → Fin (tcTables nBuf tb) → BufTy
  | .hbm, ⟨i, _⟩ => hbmTy i
  | _, _ => ⟨S4096x110, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst_0 : Ref sig .tc := ⟨.hbm, 71, rfl⟩
abbrev main_v18 : Ref sig .tc := ⟨.hbm, 72, rfl⟩
abbrev main_v19 : Ref sig .tc := ⟨.hbm, 73, rfl⟩
abbrev main_cst_1 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_cst_2 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_cst_3 : Ref sig .tc := ⟨.hbm, 108, rfl⟩
abbrev main_v30 : Ref sig .tc := ⟨.hbm, 109, rfl⟩
abbrev main_v31 : Ref sig .tc := ⟨.hbm, 110, rfl⟩
abbrev main_cst_4 : Ref sig .tc := ⟨.hbm, 111, rfl⟩
abbrev main_v32 : Ref sig .tc := ⟨.hbm, 112, rfl⟩
abbrev main_v33 : Ref sig .tc := ⟨.hbm, 113, rfl⟩
abbrev main_cst_5 : Ref sig .tc := ⟨.hbm, 114, rfl⟩
abbrev main_v34 : Ref sig .tc := ⟨.hbm, 115, rfl⟩
abbrev main_v35 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_c_1 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_3 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_call3_cst : Ref sig .tc := ⟨.hbm, 137, rfl⟩
abbrev main_call3_v15 : Ref sig .tc := ⟨.hbm, 138, rfl⟩
abbrev main_v36 : Ref sig .tc := ⟨.hbm, 139, rfl⟩
abbrev main_v37 : Ref sig .tc := ⟨.hbm, 140, rfl⟩
abbrev main_cst_6 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩

abbrev nD : Nat := 1
abbrev τ : Topo := Topo.v7x

variable {F : FTy → Type} [FloatOps F]
-- ==== Proof.Sums.lean ====
/- The real-number model of the score, and the finite-sum identities that regroup a sum over the features of a row into
   a sum over the ten feature ids. Nothing here mentions a program. -/
module

public import Mathlib.Data.EReal.Operations
public import Mathlib.Algebra.BigOperators.Fin
public import Mathlib.Tactic.Ring
public import Mathlib.Tactic.Linarith

@[expose] public section

noncomputable section

open scoped BigOperators

namespace Cert.Fm

/-- The problem's inputs as plain numbers: feature ids, feature values, embeddings, biases, the confidence table and its prior. -/
structure Inputs where
  /-- The id of feature `f` of row `b`. -/
  n : Fin 4096 → Fin 110 → Fin 10
  /-- The value of feature `f` of row `b`. -/
  v : Fin 4096 → Fin 110 → ℝ
  /-- The embedding table's first ten rows. -/
  E : Fin 10 → Fin 64 → ℝ
  /-- The bias table's first ten entries. -/
  B : Fin 10 → ℝ
  /-- The confidence table. -/
  C : Fin 10 → Fin 64 → ℝ
  /-- The confidence prior. -/
  p : Fin 10 → ℝ
  /-- The least id among the confidence features of all rows. -/
  m : Fin 10
  /-- It bounds them from below. -/
  m_le : ∀ b (j : Fin 10), m.val ≤ (n b ⟨100 + j.val, by omega⟩).val

namespace Inputs

variable (I : Inputs)

/-- Position `i` of the thirteen user features among the 110. -/
def pos (i : Fin 13) : Fin 110 := ⟨i.val, by omega⟩

/-- The confidence id of slot `j` of row `b`. -/
def u (b : Fin 4096) (j : Fin 10) : Fin 10 := I.n b ⟨100 + j.val, by omega⟩

/-- The row of the confidence table that slot `j` of row `b` reads. -/
def d (b : Fin 4096) (j : Fin 10) : Fin 10 := ⟨(I.u b j).val - I.m.val, by have := (I.u b j).isLt; omega⟩

/-- Sum of all weighted embeddings. -/
def full (b : Fin 4096) (k : Fin 64) : ℝ := ∑ f, I.E (I.n b f) k * I.v b f
/-- Sum of their squares. -/
def full2 (b : Fin 4096) (k : Fin 64) : ℝ := ∑ f, (I.E (I.n b f) k * I.v b f) * (I.E (I.n b f) k * I.v b f)
/-- Sum of the thirteen user embeddings. -/
def user (b : Fin 4096) (k : Fin 64) : ℝ := ∑ i, I.E (I.n b (pos i)) k * I.v b (pos i)
/-- Sum of their squares. -/
def user2 (b : Fin 4096) (k : Fin 64) : ℝ := ∑ i, (I.E (I.n b (pos i)) k * I.v b (pos i)) * (I.E (I.n b (pos i)) k * I.v b (pos i))
/-- Sum of the confidence embeddings. -/
def conf (b : Fin 4096) (k : Fin 64) : ℝ := ∑ j, I.C (I.d b j) k * I.p j
/-- Sum of their squares. -/
def conf2 (b : Fin 4096) (k : Fin 64) : ℝ := ∑ j, (I.C (I.d b j) k * I.p j) * (I.C (I.d b j) k * I.p j)
/-- The mediated feature: the pairwise interactions of the user and confidence embeddings. -/
def med (b : Fin 4096) (k : Fin 64) : ℝ :=
  (1 / 2) * ((I.user b k + I.conf b k) * (I.user b k + I.conf b k) - (I.user2 b k + I.conf2 b k))
/-- The pairwise interactions of all embeddings and the mediated feature, at one embedding coordinate. -/
def inter (b : Fin 4096) (k : Fin 64) : ℝ :=
  (1 / 2) * ((I.full b k + I.med b k) * (I.full b k + I.med b k) - (I.full2 b k + I.med b k * I.med b k))
/-- The weighted biases of a row. -/
def lin (b : Fin 4096) : ℝ := ∑ f, I.B (I.n b f) * I.v b f
/-- The score of row `b` before the global bias. -/
def score (b : Fin 4096) : ℝ := (∑ k, I.inter b k) + I.lin b

end Inputs

/-- The inclusion of the reals in the extended reals takes finite sums to finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over sixteen positions of which the last six are zero. -/
theorem sum_sixteen (F : Fin 16 → ℝ) (h : ∀ i : Fin 16, 10 ≤ i.val → F i = 0) : ∑ i, F i = ∑ g : Fin 10, F ⟨g.val, by omega⟩ := by
  have e := Fin.sum_univ_add (a := 10) (b := 6) F
  rw [e]
  have z : ∑ i : Fin 6, F (Fin.natAdd 10 i) = 0 := Finset.sum_eq_zero fun i _ => h _ (by simp)
  rw [z, add_zero]
  rfl

/-- An indicator column picks one term of a sum. -/
theorem sum_pick_one {N : ℕ} (a : Fin N) (H : Fin N → ℝ) : ∑ l : Fin N, (if l.val = a.val then (1 : ℝ) else 0) * H l = H a := by
  have : ∀ l : Fin N, (if l.val = a.val then (1 : ℝ) else 0) * H l = if l = a then H l else 0 := fun l => by
    by_cases e : l = a
    · simp [e]
    · have : l.val ≠ a.val := fun h => e (Fin.ext h)
      simp [e, this]
  simp [this]

/-- Expanding a row of coefficients to every second of 32 columns and multiplying with a 32-row column reads that
    column's rows of one parity. -/
theorem sum_expand (r : Fin 2) (A : Fin 16 → ℝ) (H : Fin 32 → ℝ) (hH : ∀ l : Fin 32, 20 ≤ l.val → H l = 0) :
    ∑ l : Fin 32, (∑ i : Fin 16, A i * (if l.val = 2 * i.val + r.val then (1 : ℝ) else 0)) * H l
      = ∑ g : Fin 10, A ⟨g.val, by omega⟩ * H ⟨2 * g.val + r.val, by omega⟩ := by
  have e : ∀ l : Fin 32, (∑ i : Fin 16, A i * (if l.val = 2 * i.val + r.val then (1 : ℝ) else 0)) * H l
      = ∑ i : Fin 16, A i * ((if l.val = 2 * i.val + r.val then (1 : ℝ) else 0) * H l) := fun l => by
    rw [Finset.sum_mul]; exact Finset.sum_congr rfl fun i _ => by ring
  rw [Finset.sum_congr rfl fun l _ => e l, Finset.sum_comm]
  have e2 : ∀ i : Fin 16, ∑ l : Fin 32, A i * ((if l.val = 2 * i.val + r.val then (1 : ℝ) else 0) * H l)
      = A i * H ⟨2 * i.val + r.val, by omega⟩ := fun i => by
    rw [← Finset.mul_sum]
    exact congrArg (A i * ·) (sum_pick_one (⟨2 * i.val + r.val, by omega⟩ : Fin 32) H)
  rw [Finset.sum_congr rfl fun i _ => e2 i, sum_sixteen _ fun i hi => by
    rw [hH _ (by show 20 ≤ 2 * i.val + r.val; omega), mul_zero]]

/-- Regrouping by id: coefficients against per-id sums are the sum over the features of the feature's own coefficient. -/
theorem sum_group {N : ℕ} (A : Fin 10 → ℝ) (n : Fin N → Fin 10) (y : Fin N → ℝ) :
    ∑ g : Fin 10, A g * (∑ f, if (n f).val = g.val then y f else 0) = ∑ f, A (n f) * y f := by
  simp only [Finset.mul_sum]
  rw [Finset.sum_comm]
  refine Finset.sum_congr rfl fun f _ => ?_
  rw [Finset.sum_eq_single (n f)]
  · simp
  · intro g _ hg
    have : (n f).val ≠ g.val := fun h => hg (Fin.ext h.symm)
    simp [this]
  · simp

/-- The weight of feature `f` in row `r` of the two-row selector: every feature in row 0, the first thirteen in row 1. -/
def wt (r : Fin 2) (f : Fin 110) : ℝ := if r.val = 0 then 1 else if f.val < 13 then 1 else 0

/-- Row 0 of the selector keeps every feature. -/
theorem sum_wt_zero (y : Fin 110 → ℝ) : ∑ f, wt 0 f * y f = ∑ f, y f := by simp [wt]

/-- Row 1 of the selector keeps the thirteen user features. -/
theorem sum_wt_one (y : Fin 110 → ℝ) : ∑ f, wt 1 f * y f = ∑ i, y (Inputs.pos i) := by
  have e := Fin.sum_univ_add (a := 13) (b := 97) (fun f : Fin 110 => wt 1 f * y f)
  rw [e]
  have z : ∑ i : Fin 97, wt 1 (Fin.natAdd 13 i) * y (Fin.natAdd 13 i) = 0 :=
    Finset.sum_eq_zero fun i _ => by simp [wt]
  rw [z, add_zero]
  refine Finset.sum_congr rfl fun i _ => ?_
  have h : (Fin.castAdd 97 i : Fin 110).val < 13 := i.isLt
  simp only [wt, h, if_true, Fin.val_one, one_ne_zero, if_false, one_mul]
  rfl

end Cert.Fm

end
-- ==== Proof.Take.lean ====
/- Rows taken from a table by an array of ids: the range mask of an in-range id is one and the gather reads the id's row.
   Also the least of an array of small words. -/
module

public import proofs.«01_k».proof.Proof.Sums
public import Idealize.ShloMosaic.Lib.Pointwise
public import Idealize.ShloMosaic.Lib.ReduceAll
public import Idealize.ShloMosaic.Lib.Routing.Ops

@[expose] public section

set_option maxRecDepth 16384

noncomputable section

namespace Cert.Fm

open Idealize.ShloMosaic

/-! ## The least of small words -/

/-- The signed least of two words of numbers below ten is the word of the lesser. -/
theorem minsi_small (a b : Fin 10) :
    IntOp.minsi (BitVec.ofNat 32 a.val) (BitVec.ofNat 32 b.val) = BitVec.ofNat 32 (min a b).val := by
  revert a b; decide

/-- The greatest word is neutral against a word of a number below ten. -/
theorem minsi_top (a : Fin 10) : IntOp.minsi (BitVec.ofNat 32 a.val) 2147483647#32 = BitVec.ofNat 32 a.val := by
  revert a; decide

/-- Folding the signed minimum over the words of numbers below ten from the greatest word: over the empty set that word, else the word of
    a number of the family's that bounds the family from below. -/
theorem fold_minsi {ι : Type} [DecidableEq ι] (y : ι → Fin 10) (s : Finset ι) :
    (s = ∅ ∧ s.fold IntOp.minsi 2147483647#32 (fun i => BitVec.ofNat 32 (y i).val) = 2147483647#32)
      ∨ ∃ k : Fin 10, s.fold IntOp.minsi 2147483647#32 (fun i => BitVec.ofNat 32 (y i).val) = BitVec.ofNat 32 k.val
        ∧ (∃ i ∈ s, y i = k) ∧ ∀ i ∈ s, k ≤ y i := by
  induction s using Finset.induction_on with
  | empty => exact .inl ⟨rfl, Finset.fold_empty⟩
  | insert a s ha ih =>
    right
    rw [Finset.fold_insert ha]
    rcases ih with ⟨e, h⟩ | ⟨k, h, ⟨i, hi, hk⟩, hle⟩
    · subst e
      refine ⟨y a, by rw [h, minsi_top], ⟨a, by simp, rfl⟩, fun i hi => ?_⟩
      rcases Finset.mem_insert.1 hi with e | e
      · rw [e]
      · simp at e
    · refine ⟨min (y a) k, by rw [h, minsi_small], ?_, fun i hi => ?_⟩
      · rcases le_total (y a) k with e | e
        · exact ⟨a, by simp, by rw [min_eq_left e]⟩
        · exact ⟨i, by simp [hi], by rw [min_eq_right e, hk]⟩
      · rcases Finset.mem_insert.1 hi with e | e
        · rw [e]; exact min_le_left _ _
        · exact (min_le_right _ _).trans (hle i e)

/-- The signed minimum over all words of a family of numbers below ten is the word of the least of them. -/
theorem fold_minsi_least {ι : Type} [Fintype ι] [DecidableEq ι] (y : ι → Fin 10) (m : Fin 10) (hm : ∀ i, m ≤ y i) (hex : ∃ i, y i = m) :
    Finset.univ.fold IntOp.minsi 2147483647#32 (fun i => BitVec.ofNat 32 (y i).val) = BitVec.ofNat 32 m.val := by
  obtain ⟨i0, h0⟩ := hex
  rcases fold_minsi y Finset.univ with ⟨e, -⟩ | ⟨k, h, ⟨i, -, hk⟩, hle⟩
  · exact absurd (Finset.mem_univ i0) (by rw [e]; simp)
  · have : k = m := le_antisymm (h0 ▸ hle i0 (Finset.mem_univ i0)) (hk ▸ hm i)
    rw [h, this]

/-! ## Taking rows of a table -/

/-- An in-range id is taken as it is: the range test of its one index word is true. -/
theorem take_val {α : Type} (w : Fin 1 → BitVec 32) (g : Fin 10) (hw : w 0 = BitVec.ofNat 32 g.val) (lim : ℕ) (hlim : 9 ≤ lim)
    (hlim' : lim < 2 ^ 31) (G N : α) :
    Scalar.select (Finset.fold IntOp.andi 1#1
        (fun x => IntOp.andi (IntOp.cmpi .sge (w x) 0#32) (IntOp.cmpi .sle (w x) (BitVec.ofNat 32 lim))) Finset.univ) G N = G := by
  have hgl := g.isLt
  have e1 : IntOp.cmpi .sge (BitVec.ofNat 32 g.val) 0#32 = 1#1 := by
    have : ∀ g : Fin 10, IntOp.cmpi .sge (BitVec.ofNat 32 g.val) 0#32 = 1#1 := by decide
    exact this g
  have e2 : IntOp.cmpi .sle (BitVec.ofNat 32 g.val) (BitVec.ofNat 32 lim) = 1#1 := IntOp.cmpi_sle.2 (by
    rw [StableHlo.Predicate.toInt_ofNat_small _ (by omega), StableHlo.Predicate.toInt_ofNat_small _ (by omega)]
    omega)
  have : Finset.fold IntOp.andi 1#1
      (fun x => IntOp.andi (IntOp.cmpi .sge (w x) 0#32) (IntOp.cmpi .sle (w x) (BitVec.ofNat 32 lim))) Finset.univ = 1#1 := by
    rw [Finset.univ_unique, Finset.fold_singleton]
    show IntOp.andi (IntOp.andi (IntOp.cmpi .sge (w 0) 0#32) (IntOp.cmpi .sle (w 0) (BitVec.ofNat 32 lim))) 1#1 = 1#1
    rw [hw, e1, e2]; rfl
  rw [this]; rfl

/-- The wrap of a negative index leaves an id as it is. -/
theorem wrap_id (g : Fin 10) (n : BitVec 32) :
    Scalar.select (IntOp.cmpi .slt (BitVec.ofNat 32 g.val) 0#32) (IntOp.addi (BitVec.ofNat 32 g.val) n) (BitVec.ofNat 32 g.val)
      = BitVec.ofNat 32 g.val := by
  have : ∀ g : Fin 10, IntOp.cmpi .slt (BitVec.ofNat 32 g.val) 0#32 = 0#1 := by decide
  rw [this g]; rfl

/-- The difference of two ids in order. -/
theorem subi_id (g m : Fin 10) (h : m ≤ g) :
    IntOp.subi (BitVec.ofNat 32 g.val) (BitVec.ofNat 32 m.val) = BitVec.ofNat 32 (g.val - m.val) := by
  revert g m; decide

/-- A row gather at an index: the table's row of the id. -/
theorem gather_at {α : Type} {nb B R N : ℕ} (d : GatherDims ⟨2, ![nb, B]⟩ ⟨3, ![R, N, 1]⟩ ⟨3, ![R, N, B]⟩) (hoff : d.offsetDims = [2])
    (hcoll : d.collapsedSliceDims = [0]) (hob : d.operandBatchingDims = []) (hsim : d.startIndexMap = [0])
    (hivd : d.indexVectorDim = 2) (x : (⟨2, ![nb, B]⟩ : Shape).Idx → α) (idx : IVec ⟨3, ![R, N, 1]⟩ 32) (b : Fin R) (f : Fin N) (k : Fin B)
    (g : Fin nb) (hg : idx (ix3 b f (0 : Fin 1)) = BitVec.ofNat 32 g.val) (hnb : nb < 2 ^ 31) :
    Host.gather d x idx (ix3 b f k) = x (ix2 g k) := by
  obtain ⟨od, cs, ob, sb, sm, iv, sl, wf⟩ := d
  subst hoff hcoll hob hsim hivd
  have hsl : sl 0 = 1 := wf.2.2.2.2.2.2.2.2.2.2.2.1 0 (List.mem_singleton.2 rfl)
  unfold Host.gather
  refine congrArg x (funext fun a => Fin.ext ?_)
  have hg' := g.isLt
  match a with
  | ⟨0, _⟩ =>
    show GatherDims.start _ (ix3 b f k) idx 0 + GatherDims.batchCoord _ (ix3 b f k) 0 + GatherDims.offCoord _ (ix3 b f k) 0 = g.val
    rw [GatherDims.batchCoord_eq_zero _ _ _ (by simp), GatherDims.offCoord_eq_zero _ _ _ (fun h => by
      have := ((GatherDims.mem_sKept _ _).1 h).1; simp at this)]
    unfold GatherDims.start
    rw [dif_pos (List.mem_singleton.2 rfl)]
    have hsi : ∀ c, GatherDims.siIdx ⟨[2], [0], [], sb, [0], 2, sl, wf⟩ (ix3 b f k) c = ix3 b f (0 : Fin 1) := by
      intro c
      funext a'
      fin_cases a'
      · exact Fin.ext rfl
      · exact Fin.ext rfl
      · exact Subsingleton.elim (α := Fin 1) _ _
    rw [hsi, hg, StableHlo.Predicate.toInt_ofNat_small _ (by omega)]
    show min ((g.val : Int)).toNat (nb - sl 0) + 0 + 0 = g.val
    rw [hsl]
    omega
  | ⟨1, _⟩ =>
    show GatherDims.start _ (ix3 b f k) idx 1 + GatherDims.batchCoord _ (ix3 b f k) 1 + GatherDims.offCoord _ (ix3 b f k) 1 = k.val
    rw [GatherDims.batchCoord_eq_zero _ _ _ (by simp)]
    unfold GatherDims.start GatherDims.offCoord
    rw [dif_neg (by simp), dif_pos ((GatherDims.mem_sKept _ _).2 (by simp)), Nat.zero_add]
    rfl

end Cert.Fm

end
-- ==== Proof.Reference.lean ====
/- The reference's result at an index: the score of the inputs plus the global bias. -/
module

public import proofs.«01_k».proof.Proof.Take
public import proofs.«01_k».proof.Proof.Gen.ReferenceIdeal.Run
public import Idealize.ShloMosaic.Lib.Tactic.CleanTypes
public import Idealize.ShloMosaic.Lib.Tactic
public import Idealize.ShloMosaic.Lib.IdealHost

@[expose] public section

set_option maxRecDepth 16384

noncomputable section

open scoped BigOperators

namespace Cert.Fm

open Idealize.ShloMosaic Cert.ReferenceIdeal Cert.ReferenceIdeal.Gen Cert.ReferenceIdeal.Value

/-- The f32 pattern of one half. -/
theorem half_coe : Ideal.ofBits .f32 0x3F000000#32 = ((1 / 2 : ℝ) : EReal) := by
  simp [Ideal.ofBits, Ideal.ieee, -EReal.coe_mul]; norm_num

/-- What the seven arguments hold: the inputs `I`, and a global bias of which nothing is asked. -/
structure Args (I : Inputs) (a0 : IVec S4096x110 32) (a1 : FVec Ideal S4096x110 .f32) (a2 : FVec Ideal S1000000x64 .f32)
    (a3 : FVec Ideal S1000000x1 .f32) (a5 : FVec Ideal S10x64 .f32) (a6 : FVec Ideal S10x1 .f32) : Prop where
  /-- The ids, as words. -/
  id : ∀ b f, a0 (ix2 b f) = BitVec.ofNat 32 (I.n b f).val
  /-- The values. -/
  val : ∀ b f, a1 (ix2 b f) = ((I.v b f : ℝ) : EReal)
  /-- The embedding table's first ten rows. -/
  emb : ∀ (g : Fin 10) (r : Fin 1000000) k, r.val = g.val → a2 (ix2 r k) = ((I.E g k : ℝ) : EReal)
  /-- The bias table's first ten entries. -/
  bias : ∀ (g : Fin 10) (r : Fin 1000000), r.val = g.val → a3 (ix2 r 0) = ((I.B g : ℝ) : EReal)
  /-- The confidence table. -/
  ctab : ∀ g k, a5 (ix2 g k) = ((I.C g k : ℝ) : EReal)
  /-- The confidence prior. -/
  cprior : ∀ j, a6 (ix2 j 0) = ((I.p j : ℝ) : EReal)
  /-- The least confidence id is one of them. -/
  least : ∃ b j, I.u b j = I.m

section

variable {I : Inputs} (V0 : Valuation τ sig (Elt Ideal))
  (H : Args I (V0 (Proc.devRef .tc main_arg0)) (V0 (Proc.devRef .tc main_arg1)) (V0 (Proc.devRef .tc main_arg2))
    (V0 (Proc.devRef .tc main_arg3)) (V0 (Proc.devRef .tc main_arg5)) (V0 (Proc.devRef .tc main_arg6)))

include H

/-- A confidence id less the least one. -/
theorem conf_index (b : Fin 4096) (j : Fin 10) : res_main_v3 V0 (ix2 b j) = BitVec.ofNat 32 (I.d b j).val := by
  unfold res_main_v3 res_main_v0
  clean_types
  pointwise
  have e : ∀ x : Fin 4096 × Fin 10, V0 (Proc.devRef .tc main_arg0) (ix2 x.1 ⟨100 + x.2.val, by omega⟩) = BitVec.ofNat 32 (I.u x.1 x.2).val :=
    fun x => H.id _ _
  have h0 := e (b, j)
  refine (congrArg₂ IntOp.subi h0 ((congrArg (fun f => Finset.fold IntOp.minsi 2147483647#32 f Finset.univ) (funext e)).trans
    (fold_minsi_least (fun x : Fin 4096 × Fin 10 => I.u x.1 x.2) I.m (fun x => I.m_le x.1 x.2) ?_))).trans (subi_id _ _ (I.m_le b j))
  obtain ⟨b0, j0, h⟩ := H.least
  exact ⟨(b0, j0), h⟩

/-- The confidence table's row numbers. -/
theorem index0 (b : Fin 4096) (j : Fin 10) : res_main_call0_v5 V0 (ix3 b j 0) = BitVec.ofNat 32 (I.d b j).val := by
  have h := conf_index V0 H b j
  unfold res_main_call0_v5
  clean_types
  pointwise
  rw [h]
  exact wrap_id _ _

/-- The embedding table's row numbers of the user features. -/
theorem index1 (b : Fin 4096) (i : Fin 13) : res_main_call1_v5 V0 (ix3 b i 0) = BitVec.ofNat 32 (I.n b (Inputs.pos i)).val := by
  have h := H.id b (Inputs.pos i)
  unfold res_main_call1_v5 res_main_v9
  clean_types
  pointwise
  exact (congrArg (fun w => Scalar.select (IntOp.cmpi .slt w 0#32) (IntOp.addi w 1000000#32) w) h).trans (wrap_id _ _)

/-- The embedding table's row numbers. -/
theorem index2 (b : Fin 4096) (f : Fin 110) : res_main_call2_v5 V0 (ix3 b f 0) = BitVec.ofNat 32 (I.n b f).val := by
  have h := H.id b f
  unfold res_main_call2_v5
  clean_types
  pointwise
  rw [h]
  exact wrap_id _ _

/-- The bias table's row numbers. -/
theorem index3 (b : Fin 4096) (f : Fin 110) : res_main_call3_v5 V0 (ix3 b f 0) = BitVec.ofNat 32 (I.n b f).val := by
  have h := H.id b f
  unfold res_main_call3_v5
  clean_types
  pointwise
  rw [h]
  exact wrap_id _ _

/-- The values, with a trailing axis. -/
theorem value_apply (b : Fin 4096) (f : Fin 110) : res_main_v8 V0 (ix3 b f 0) = ((I.v b f : ℝ) : EReal) := by
  have h := H.val b f
  unfold res_main_v8
  clean_types
  pointwise
  exact h

/-- The user features' embedding rows. -/
theorem gather1 (b : Fin 4096) (i : Fin 13) (k : Fin 64) :
    Host.gather gather_S1000000x64_S4096x13x1_S4096x13x64_2_0_n_n_0_2_164 (V0 (Proc.devRef .tc main_arg2)) (res_main_call1_v5 V0)
      (ix3 b i k) = ((I.E (I.n b (Inputs.pos i)) k : ℝ) : EReal) :=
  (gather_at gather_S1000000x64_S4096x13x1_S4096x13x64_2_0_n_n_0_2_164 rfl rfl rfl rfl rfl (V0 (Proc.devRef .tc main_arg2))
    (res_main_call1_v5 V0) b i k ⟨(I.n b (Inputs.pos i)).val, by omega⟩ (index1 V0 H b i) (by norm_num)).trans (H.emb _ _ k rfl)

/-- The confidence embedding rows. -/
theorem gather0 (b : Fin 4096) (j : Fin 10) (k : Fin 64) :
    Host.gather gather_S10x64_S4096x10x1_S4096x10x64_2_0_n_n_0_2_164 (V0 (Proc.devRef .tc main_arg5)) (res_main_call0_v5 V0)
      (ix3 b j k) = ((I.C (I.d b j) k : ℝ) : EReal) :=
  (gather_at gather_S10x64_S4096x10x1_S4096x10x64_2_0_n_n_0_2_164 rfl rfl rfl rfl rfl (V0 (Proc.devRef .tc main_arg5))
    (res_main_call0_v5 V0) b j k (I.d b j) (index0 V0 H b j) (by norm_num)).trans (H.ctab _ k)

/-- All features' embedding rows. -/
theorem gather2 (b : Fin 4096) (f : Fin 110) (k : Fin 64) :
    Host.gather gather_S1000000x64_S4096x110x1_S4096x110x64_2_0_n_n_0_2_164 (V0 (Proc.devRef .tc main_arg2)) (res_main_call2_v5 V0)
      (ix3 b f k) = ((I.E (I.n b f) k : ℝ) : EReal) :=
  (gather_at gather_S1000000x64_S4096x110x1_S4096x110x64_2_0_n_n_0_2_164 rfl rfl rfl rfl rfl (V0 (Proc.devRef .tc main_arg2))
    (res_main_call2_v5 V0) b f k ⟨(I.n b f).val, by omega⟩ (index2 V0 H b f) (by norm_num)).trans (H.emb _ _ k rfl)

/-- All features' biases. -/
theorem gather3 (b : Fin 4096) (f : Fin 110) :
    Host.gather gather_S1000000x1_S4096x110x1_S4096x110x1_2_0_n_n_0_2_11 (V0 (Proc.devRef .tc main_arg3)) (res_main_call3_v5 V0)
      (ix3 b f 0) = ((I.B (I.n b f) : ℝ) : EReal) :=
  (gather_at gather_S1000000x1_S4096x110x1_S4096x110x1_2_0_n_n_0_2_11 rfl rfl rfl rfl rfl (V0 (Proc.devRef .tc main_arg3))
    (res_main_call3_v5 V0) b f 0 ⟨(I.n b f).val, by omega⟩ (index3 V0 H b f) (by norm_num)).trans (H.bias _ _ rfl)

/-- The embeddings that the mediated feature interacts: the thirteen user embeddings, then the ten confidence embeddings. -/
theorem inner_apply (b : Fin 4096) (i : Fin 23) (k : Fin 64) :
    res_main_v14 V0 (ix3 b i k)
      = ((if h : i.val < 13 then I.E (I.n b (Inputs.pos ⟨i.val, h⟩)) k * I.v b (Inputs.pos ⟨i.val, h⟩)
          else I.C (I.d b ⟨i.val - 13, by omega⟩) k * I.p ⟨i.val - 13, by omega⟩ : ℝ) : EReal) := by
  unfold res_main_v14
  clean_types
  pointwise
  split
  · rename_i h
    refine Eq.trans ?_ (EReal.coe_mul _ _).symm
    exact congrArg₂ (· * ·) ((take_val _ _ (index1 V0 H b ⟨i.val, h⟩) 999999 (by norm_num) (by norm_num) _ _).trans
      (gather1 V0 H b ⟨i.val, h⟩ k)) (value_apply V0 H b (Inputs.pos ⟨i.val, h⟩))
  · rename_i h
    refine Eq.trans ?_ (EReal.coe_mul _ _).symm
    exact congrArg₂ (· * ·) ((take_val _ _ (index0 V0 H b ⟨i.val - 13, by omega⟩) 9 (by norm_num) (by norm_num) _ _).trans
      (gather0 V0 H b ⟨i.val - 13, by omega⟩ k)) (H.cprior _)

end

/-- A sum over 23 positions cut after the thirteenth. -/
theorem sum_inner (a : Fin 13 → ℝ) (c : Fin 10 → ℝ) :
    ∑ i : Fin 23, (if h : i.val < 13 then a ⟨i.val, h⟩ else c ⟨i.val - 13, by omega⟩) = (∑ i, a i) + ∑ j, c j := by
  rw [Fin.sum_univ_add (a := 13) (b := 10)]
  refine congrArg₂ (· + ·) ?_ ?_
  · exact Finset.sum_congr rfl fun i _ => by rw [dif_pos (by simp)]; rfl
  · refine Finset.sum_congr rfl fun j _ => ?_
    rw [dif_neg (by simp)]
    congr 1
    exact Fin.ext (by simp)

/-- A sum over 111 positions cut before the last. -/
theorem sum_outer (a : Fin 110 → ℝ) (c : ℝ) :
    ∑ i : Fin 111, (if h : i.val < 110 then a ⟨i.val, h⟩ else c) = (∑ i, a i) + c := by
  rw [Fin.sum_univ_castSucc]
  refine congrArg₂ (· + ·) ?_ ?_
  · exact Finset.sum_congr rfl fun i _ => by rw [dif_pos (by simp)]; rfl
  · rw [dif_neg (by simp)]

section

variable {I : Inputs} (V0 : Valuation τ sig (Elt Ideal))
  (H : Args I (V0 (Proc.devRef .tc main_arg0)) (V0 (Proc.devRef .tc main_arg1)) (V0 (Proc.devRef .tc main_arg2))
    (V0 (Proc.devRef .tc main_arg3)) (V0 (Proc.devRef .tc main_arg5)) (V0 (Proc.devRef .tc main_arg6)))

include H

/-- Their sum. -/
theorem inner_sum (b : Fin 4096) (k : Fin 64) : res_main_v15 V0 (ix2 b k) = ((I.user b k + I.conf b k : ℝ) : EReal) := by
  have h := inner_apply V0 H b
  unfold res_main_v15
  clean_types
  pointwise
  simp only [h]
  rw [← coe_sum]
  exact congrArg _ (sum_inner (fun i => I.E (I.n b (Inputs.pos i)) k * I.v b (Inputs.pos i)) (fun j => I.C (I.d b j) k * I.p j))

/-- All embeddings and the mediated feature. -/
theorem outer_apply (b : Fin 4096) (i : Fin 111) (k : Fin 64) :
    res_main_v26 V0 (ix3 b i k)
      = ((if h : i.val < 110 then I.E (I.n b ⟨i.val, h⟩) k * I.v b ⟨i.val, h⟩ else I.med b k : ℝ) : EReal) := by
  have h14 := inner_apply V0 H b
  have h15 := inner_sum V0 H b k
  unfold res_main_v26
  clean_types
  pointwise
  split
  · rename_i h
    refine Eq.trans ?_ (EReal.coe_mul _ _).symm
    exact congrArg₂ (· * ·) ((take_val _ _ (index2 V0 H b ⟨i.val, h⟩) 999999 (by norm_num) (by norm_num) _ _).trans
      (gather2 V0 H b ⟨i.val, h⟩ k)) (value_apply V0 H b ⟨i.val, h⟩)
  · simp only [h14, h15, half_coe, ← EReal.coe_mul]
    rw [← coe_sum, ← EReal.coe_sub, ← EReal.coe_mul]
    congr 1
    have e : ∀ i : Fin 23, (if h : i.val < 13 then I.E (I.n b (Inputs.pos ⟨i.val, h⟩)) k * I.v b (Inputs.pos ⟨i.val, h⟩)
          else I.C (I.d b ⟨i.val - 13, by omega⟩) k * I.p ⟨i.val - 13, by omega⟩)
        * (if h : i.val < 13 then I.E (I.n b (Inputs.pos ⟨i.val, h⟩)) k * I.v b (Inputs.pos ⟨i.val, h⟩)
          else I.C (I.d b ⟨i.val - 13, by omega⟩) k * I.p ⟨i.val - 13, by omega⟩)
        = if h : i.val < 13 then (I.E (I.n b (Inputs.pos ⟨i.val, h⟩)) k * I.v b (Inputs.pos ⟨i.val, h⟩))
              * (I.E (I.n b (Inputs.pos ⟨i.val, h⟩)) k * I.v b (Inputs.pos ⟨i.val, h⟩))
          else (I.C (I.d b ⟨i.val - 13, by omega⟩) k * I.p ⟨i.val - 13, by omega⟩)
            * (I.C (I.d b ⟨i.val - 13, by omega⟩) k * I.p ⟨i.val - 13, by omega⟩) := fun i => by split <;> rfl
    simp only [e]
    rw [sum_inner (fun i => (I.E (I.n b (Inputs.pos i)) k * I.v b (Inputs.pos i)) * (I.E (I.n b (Inputs.pos i)) k * I.v b (Inputs.pos i)))
      (fun j => (I.C (I.d b j) k * I.p j) * (I.C (I.d b j) k * I.p j))]
    rfl

/-- Their sum. -/
theorem outer_sum (b : Fin 4096) (k : Fin 64) : res_main_v27 V0 (ix2 b k) = ((I.full b k + I.med b k : ℝ) : EReal) := by
  have h := outer_apply V0 H b
  unfold res_main_v27
  clean_types
  pointwise
  simp only [h]
  rw [← coe_sum]
  exact congrArg _ (sum_outer (fun f => I.E (I.n b f) k * I.v b f) (I.med b k))

/-- The sum of the pairwise interactions of a row. -/
theorem inter_sum (b : Fin 4096) :
    (Host.reduceAdd (mulf (broadcastInDim S4096x64 ![] bcast_S_S4096x64 (constant S_ .f32 0x3F000000#32))
        (subf (mulf (res_main_v27 V0) (res_main_v27 V0)) (Host.reduceAdd (mulf (res_main_v26 V0) (res_main_v26 V0))
          (constant S_ .f32 0x00000000#32) reducesTo_S4096x111x64_S4096x64_d1 h_S_))) (constant S_ .f32 0x00000000#32)
        reducesTo_S4096x64_S4096_d1 h_S_ : FVec Ideal S4096 .f32) (ix1 b) = ((∑ k, I.inter b k : ℝ) : EReal) := by
  have h26 := outer_apply V0 H b
  have h27 := outer_sum V0 H b
  clean_types
  pointwise
  simp only [h26, h27, half_coe, ← EReal.coe_mul, ← coe_sum, ← EReal.coe_sub]
  congr 1
  refine Finset.sum_congr rfl fun k _ => ?_
  have e : ∀ i : Fin 111, (if h : i.val < 110 then I.E (I.n b ⟨i.val, h⟩) k * I.v b ⟨i.val, h⟩ else I.med b k)
      * (if h : i.val < 110 then I.E (I.n b ⟨i.val, h⟩) k * I.v b ⟨i.val, h⟩ else I.med b k)
      = if h : i.val < 110 then (I.E (I.n b ⟨i.val, h⟩) k * I.v b ⟨i.val, h⟩) * (I.E (I.n b ⟨i.val, h⟩) k * I.v b ⟨i.val, h⟩)
        else I.med b k * I.med b k := fun i => by split <;> rfl
  simp only [e]
  rw [sum_outer (fun f => (I.E (I.n b f) k * I.v b f) * (I.E (I.n b f) k * I.v b f))]
  rfl

/-- The weighted biases of a row. -/
theorem bias_sum (b : Fin 4096) :
    (Host.reduceAdd (mulf (select (broadcastInDim S4096x110x1 ![0, 1] bcast_S4096x110_S4096x110x1_0_1 (Host.reduce IntOp.andi
        (andi (cmpi .sge (res_main_call3_v5 V0) (broadcastInDim S4096x110x1 ![] bcast_S_S4096x110x1 (constantI S_ 32 0#32)))
          (cmpi .sle (res_main_call3_v5 V0) (broadcastInDim S4096x110x1 ![0, 1, 2] bcast_S1x1x1_S4096x110x1_0_1_2
            (broadcastInDim S1x1x1 ![2] bcast_S1_S1x1x1_2 (constantI S1 32 999999#32))))) (constantI S_ 1 1#1)
        reducesTo_S4096x110x1_S4096x110_d2 h_S_)) (Host.gather gather_S1000000x1_S4096x110x1_S4096x110x1_2_0_n_n_0_2_11
          (V0 (Proc.devRef .tc main_arg3)) (res_main_call3_v5 V0)) (broadcastInDim S4096x110x1 ![] bcast_S_S4096x110x1
            (constant S_ .f32 0x7FC00000#32))) (res_main_v8 V0)) (constant S_ .f32 0x00000000#32)
        reducesTo_S4096x110x1_S4096x1_d1 h_S_ : FVec Ideal S4096x1 .f32) (ix2 b 0) = ((I.lin b : ℝ) : EReal) := by
  clean_types
  pointwise
  refine Eq.trans (Finset.sum_congr rfl fun f _ => ?_) (coe_sum Finset.univ (fun f => I.B (I.n b f) * I.v b f)).symm
  refine Eq.trans ?_ (EReal.coe_mul _ _).symm
  exact congrArg₂ (· * ·) ((take_val _ _ (index3 V0 H b f) 999999 (by norm_num) (by norm_num) _ _).trans (gather3 V0 H b f))
    (value_apply V0 H b f)

/-- The reference's result at row `b`: the score plus the global bias. -/
theorem reference_apply (b : Fin 4096) :
    (shapeCast S4096 (addf (addf (broadcastInDim S4096x1 ![0] bcast_S4096_S4096x1_0 (Host.reduceAdd
        (mulf (broadcastInDim S4096x64 ![] bcast_S_S4096x64 (constant S_ .f32 0x3F000000#32))
          (subf (mulf (res_main_v27 V0) (res_main_v27 V0)) (Host.reduceAdd (mulf (res_main_v26 V0) (res_main_v26 V0))
            (constant S_ .f32 0x00000000#32) reducesTo_S4096x111x64_S4096x64_d1 h_S_))) (constant S_ .f32 0x00000000#32)
          reducesTo_S4096x64_S4096_d1 h_S_))
        (Host.reduceAdd (mulf (select (broadcastInDim S4096x110x1 ![0, 1] bcast_S4096x110_S4096x110x1_0_1 (Host.reduce IntOp.andi
          (andi (cmpi .sge (res_main_call3_v5 V0) (broadcastInDim S4096x110x1 ![] bcast_S_S4096x110x1 (constantI S_ 32 0#32)))
            (cmpi .sle (res_main_call3_v5 V0) (broadcastInDim S4096x110x1 ![0, 1, 2] bcast_S1x1x1_S4096x110x1_0_1_2
              (broadcastInDim S1x1x1 ![2] bcast_S1_S1x1x1_2 (constantI S1 32 999999#32))))) (constantI S_ 1 1#1)
          reducesTo_S4096x110x1_S4096x110_d2 h_S_)) (Host.gather gather_S1000000x1_S4096x110x1_S4096x110x1_2_0_n_n_0_2_11
            (V0 (Proc.devRef .tc main_arg3)) (res_main_call3_v5 V0)) (broadcastInDim S4096x110x1 ![] bcast_S_S4096x110x1
              (constant S_ .f32 0x7FC00000#32))) (res_main_v8 V0)) (constant S_ .f32 0x00000000#32)
          reducesTo_S4096x110x1_S4096x1_d1 h_S_))
        (broadcastInDim S4096x1 ![0, 1] bcast_S1x1_S4096x1_0_1 (broadcastInDim S1x1 ![1] bcast_S1_S1x1_1
          (V0 (Proc.devRef .tc main_arg4))))) shapeCasts_S4096x1_S4096 : FVec Ideal S4096 .f32) (ix1 b)
      = ((I.score b : ℝ) : EReal) + (V0 (Proc.devRef .tc main_arg4) : FVec Ideal S1 .f32) (ix1 0) := by
  have h1 := inter_sum V0 H b
  have h2 := bias_sum V0 H b
  generalize hA : (Host.reduceAdd _ _ reducesTo_S4096x64_S4096_d1 h_S_ : FVec Ideal S4096 .f32) = A at h1 ⊢
  generalize hB : (Host.reduceAdd _ _ reducesTo_S4096x110x1_S4096x1_d1 h_S_ : FVec Ideal S4096x1 .f32) = B at h2 ⊢
  clean_types
  pointwise
  rw [h1, h2, ← EReal.coe_add]
  rfl

end

end Cert.Fm

end
-- ==== Proof.KernelRows.lean ====
/- The kernel's building blocks at an index, over operands whose elements are reals: the constants of the id tests, the
   matrix products, the selector matrices, and the two rows that one id contributes to each of the three gathered matrices. -/
module

public import proofs.«01_k».proof.Proof.Sums
public import proofs.«01_k».proof.Proof.Gen.KernelIdeal.Frame
public import Idealize.ShloMosaic.Lib.Pointwise
public import Idealize.ShloMosaic.Lib.IdealHost
public import Idealize.ShloMosaic.Lib.Tactic

@[expose] public section

set_option maxRecDepth 16384

noncomputable section

open scoped BigOperators

namespace Cert.Fm

open Idealize.ShloMosaic Cert.KernelIdeal Cert.KernelIdeal.Gen

/-! ## Constants -/

/-- The f32 pattern of one half. -/
theorem half_f32 : Ideal.ofBits .f32 0x3F000000#32 = ((1 / 2 : ℝ) : EReal) := by
  simp [Ideal.ofBits, Ideal.ieee, -EReal.coe_mul]; norm_num
/-- The bf16 pattern of two. -/
theorem two_bf16 : Ideal.ofBits .bf16 0x4000#16 = ((2 : ℝ) : EReal) := by
  simp [Ideal.ofBits, Ideal.ieee, -EReal.coe_mul]; norm_num
/-- The bf16 pattern of three. -/
theorem three_bf16 : Ideal.ofBits .bf16 0x4040#16 = ((3 : ℝ) : EReal) := by
  simp [Ideal.ofBits, Ideal.ieee, -EReal.coe_mul]; norm_num
/-- The bf16 pattern of four. -/
theorem four_bf16 : Ideal.ofBits .bf16 0x4080#16 = ((4 : ℝ) : EReal) := by
  simp [Ideal.ofBits, Ideal.ieee, -EReal.coe_mul]; norm_num
/-- The bf16 pattern of five. -/
theorem five_bf16 : Ideal.ofBits .bf16 0x40A0#16 = ((5 : ℝ) : EReal) := by
  simp [Ideal.ofBits, Ideal.ieee, -EReal.coe_mul]; norm_num
/-- The bf16 pattern of six. -/
theorem six_bf16 : Ideal.ofBits .bf16 0x40C0#16 = ((6 : ℝ) : EReal) := by
  simp [Ideal.ofBits, Ideal.ieee, -EReal.coe_mul]; norm_num
/-- The bf16 pattern of seven. -/
theorem seven_bf16 : Ideal.ofBits .bf16 0x40E0#16 = ((7 : ℝ) : EReal) := by
  simp [Ideal.ofBits, Ideal.ieee, -EReal.coe_mul]; norm_num
/-- The bf16 pattern of eight. -/
theorem eight_bf16 : Ideal.ofBits .bf16 0x4100#16 = ((8 : ℝ) : EReal) := by
  simp [Ideal.ofBits, Ideal.ieee, -EReal.coe_mul]; norm_num
/-- The bf16 pattern of nine. -/
theorem nine_bf16 : Ideal.ofBits .bf16 0x4110#16 = ((9 : ℝ) : EReal) := by
  simp [Ideal.ofBits, Ideal.ieee, -EReal.coe_mul]; norm_num

/-! ## Products of real matrices -/

/-- A sum of products of reals, taken in the extended reals. -/
theorem coe_dot {K : ℕ} (x y : Fin K → ℝ) : (∑ k, ((x k : ℝ) : EReal) * ((y k : ℝ) : EReal)) = ((∑ k, x k * y k : ℝ) : EReal) := by
  rw [coe_sum]; exact Finset.sum_congr rfl fun k _ => (EReal.coe_mul _ _).symm

/-- The two-row selector times a 110-row matrix. -/
theorem dot110 (x : FVec Ideal S2x110 .bf16) (y : FVec Ideal S110x4096 .bf16) (r : Fin 2) (b : Fin 4096) (xr yr : Fin 110 → ℝ)
    (hx : ∀ k, x (ix2 r k) = ((xr k : ℝ) : EReal)) (hy : ∀ k, y (ix2 k b) = ((yr k : ℝ) : EReal)) :
    matmul dot_S2x110_S110x4096_S2x4096_1_0_0_1_n_n none x y (constant S2x4096 .f32 0x00000000#32) (ix2 r b)
      = ((∑ k, xr k * yr k : ℝ) : EReal) := by
  pointwise
  simp only [hx, hy, zero_add]
  exact coe_dot xr yr

/-- The two-row prior matrix times a ten-row matrix. -/
theorem dot10 (x : FVec Ideal S2x10 .f32) (y : FVec Ideal S10x4096 .f32) (r : Fin 2) (b : Fin 4096) (xr yr : Fin 10 → ℝ)
    (hx : ∀ k, x (ix2 r k) = ((xr k : ℝ) : EReal)) (hy : ∀ k, y (ix2 k b) = ((yr k : ℝ) : EReal)) :
    matmul dot_S2x10_S10x4096_S2x4096_1_0_0_1_n_n none x y (constant S2x4096 .f32 0x00000000#32) (ix2 r b)
      = ((∑ k, xr k * yr k : ℝ) : EReal) := by
  pointwise
  simp only [hx, hy, zero_add]
  exact coe_dot xr yr

/-! ## The selectors -/

/-- Equality of two words that hold small numbers. -/
theorem cmpi_eq_ofNat (x y : ℕ) (hx : x < 2 ^ 32) (hy : y < 2 ^ 32) :
    IntOp.cmpi .eq (BitVec.ofNat 32 x) (BitVec.ofNat 32 y) = if x = y then 1#1 else 0#1 := by
  have h : (BitVec.ofNat 32 x = BitVec.ofNat 32 y) ↔ x = y := by
    rw [← BitVec.toNat_inj, BitVec.toNat_ofNat, BitVec.toNat_ofNat, Nat.mod_eq_of_lt hx, Nat.mod_eq_of_lt hy]
  by_cases e : x = y
  · simp [IntOp.cmpi, e]
  · have hb : (BitVec.ofNat 32 x == BitVec.ofNat 32 y) = false := beq_eq_false_iff_ne.mpr (mt h.1 e)
    rw [if_neg e]
    show BitVec.ofBool (BitVec.ofNat 32 x == BitVec.ofNat 32 y) = 0#1
    rw [hb]; rfl

/-- A test bit, widened and read as a number. -/
theorem bit_real (P : Prop) [Decidable P] :
    (FloatOps.sitofp .f32 (BitVec.setWidth 32 (if P then 1#1 else 0#1)) : Ideal .f32) = ((if P then 1 else 0 : ℝ) : EReal) := by
  show (((BitVec.setWidth 32 (if P then 1#1 else 0#1)).toInt : ℝ) : EReal) = _
  by_cases h : P <;> simp [h]

/-- The selector matrix: ones in row 0, ones in the first thirteen places of row 1. -/
theorem sel_apply (r : Fin 2) (f : Fin 110) : k0_pay6 (F := Ideal) (ix2 r f) = ((wt r f : ℝ) : EReal) := by
  pointwise [k0_pay6]
  rw [cmpi_eq_ofNat _ 0 (by omega) (by omega)]
  have hf : IntOp.cmpi .slt (BitVec.ofNat 32 f.val) 13#32 = if f.val < 13 then 1#1 else 0#1 := by
    have : ∀ f : Fin 110, IntOp.cmpi .slt (BitVec.ofNat 32 f.val) 13#32 = if f.val < 13 then 1#1 else 0#1 := by decide
    exact this f
  rw [hf]
  unfold wt
  by_cases h : r.val = 0
  · simp [h, Scalar.select]
  · by_cases h' : f.val < 13 <;> simp [h, h', Scalar.select]

/-- The prior matrix: the prior in row 0, its square in row 1. -/
theorem prior_apply (x : FVec Ideal S2x10 .f32) (p : Fin 10 → ℝ) (hx : ∀ r j, x (ix2 r j) = ((p j : ℝ) : EReal)) (r : Fin 2) (j : Fin 10) :
    k0_pay7 (F := Ideal) x (ix2 r j) = ((if r.val = 0 then p j else p j * p j : ℝ) : EReal) := by
  pointwise [k0_pay7]
  rw [cmpi_eq_ofNat _ 1 (by omega) (by omega), hx, ← EReal.coe_mul]
  have hr := r.isLt
  by_cases h : r.val = 0
  · simp [h, Scalar.select]
  · have : r.val = 1 := by omega
    simp [this, Scalar.select]

/-- The masked feature values of one id. -/
theorem mask_apply (w : BitVec 16) (g : Fin 10) (hw : Ideal.ofBits .bf16 w = ((g.val : ℝ) : EReal))
    (v1 v3 : FVec Ideal S110x4096 .bf16) (n : Fin 10) (v : ℝ) (f : Fin 110) (b : Fin 4096)
    (h1 : v1 (ix2 f b) = ((n.val : ℝ) : EReal)) (h3 : v3 (ix2 f b) = ((v : ℝ) : EReal)) :
    select (cmpf .oeq v1 (broadcast S110x4096 (Scalar.ofBits .bf16 w : Ideal .bf16))) v3
        (broadcast S110x4096 (Scalar.ofBits .bf16 0x0000#16 : Ideal .bf16)) (ix2 f b)
      = ((if n.val = g.val then v else 0 : ℝ) : EReal) := by
  pointwise
  rw [h1, h3, hw]
  by_cases h : n.val = g.val
  · simp [h]
  · have hne : ¬ ((n.val : ℝ) : EReal) = ((g.val : ℝ) : EReal) := fun e => h (Nat.cast_injective (EReal.coe_eq_coe_iff.1 e))
    rw [if_neg hne, if_neg h, EReal.coe_zero]

/-- The bit of an id test as a real. -/
theorem bit_apply (g : Fin 10) (v5 : IVec S10x4096 32) (u : Fin 10) (j : Fin 10) (b : Fin 4096)
    (h : v5 (ix2 j b) = BitVec.ofNat 32 u.val) :
    sitofp (F := Ideal) .f32 (extui 32 (cmpi .eq v5 (broadcast S10x4096 (BitVec.ofNat 32 g.val))) natLt_1_32) (ix2 j b)
      = ((if u.val = g.val then 1 else 0 : ℝ) : EReal) := by
  pointwise
  rw [h, cmpi_eq_ofNat _ _ (by omega) (by omega), bit_real]

/-! ## The rows of one id -/

/-- What the argument arrays of the kernel's first part hold: ids, values, confidence ids and prior of the inputs `I`. -/
structure Rows (I : Inputs) (v1 v3 : FVec Ideal S110x4096 .bf16) (v5 : IVec S10x4096 32) (v28 : FVec Ideal S2x10 .f32) : Prop where
  /-- The ids, as numbers. -/
  id : ∀ f b, v1 (ix2 f b) = (((I.n b f).val : ℝ) : EReal)
  /-- The values. -/
  val : ∀ f b, v3 (ix2 f b) = ((I.v b f : ℝ) : EReal)
  /-- The confidence ids, as words. -/
  cid : ∀ j b, v5 (ix2 j b) = BitVec.ofNat 32 (I.u b j).val
  /-- The prior and its square. -/
  prior : ∀ r j, v28 (ix2 r j) = ((if r.val = 0 then I.p j else I.p j * I.p j : ℝ) : EReal)

/-- The sum of the values of id `g`, over all features or over the user features. -/
def hRow (I : Inputs) (g : ℕ) (r : Fin 2) (b : Fin 4096) : ℝ := ∑ f, wt r f * (if (I.n b f).val = g then I.v b f else 0)
/-- The sum of their squares. -/
def hRow2 (I : Inputs) (g : ℕ) (r : Fin 2) (b : Fin 4096) : ℝ :=
  ∑ f, wt r f * ((if (I.n b f).val = g then I.v b f else 0) * I.v b f)
/-- The sum of the prior, or of its square, over the confidence slots of id `g`. -/
def pRow (I : Inputs) (g : ℕ) (r : Fin 2) (b : Fin 4096) : ℝ :=
  ∑ j, (if r.val = 0 then I.p j else I.p j * I.p j) * (if (I.u b j).val = g then 1 else 0)

section
variable {I : Inputs} {v1 v3 : FVec Ideal S110x4096 .bf16} {v5 : IVec S10x4096 32} {v28 : FVec Ideal S2x10 .f32} (R : Rows I v1 v3 v5 v28)
include R

/-- One id's two rows of value sums. -/
theorem val_row (w : BitVec 16) (g : Fin 10) (hw : Ideal.ofBits .bf16 w = ((g.val : ℝ) : EReal)) (r : Fin 2) (b : Fin 4096) :
    matmul dot_S2x110_S110x4096_S2x4096_1_0_0_1_n_n none (k0_pay6 (F := Ideal))
        (select (cmpf .oeq v1 (broadcast S110x4096 (Scalar.ofBits .bf16 w : Ideal .bf16))) v3
          (broadcast S110x4096 (Scalar.ofBits .bf16 0x0000#16 : Ideal .bf16)))
        (constant S2x4096 .f32 0x00000000#32) (ix2 r b) = ((hRow I g.val r b : ℝ) : EReal) :=
  dot110 _ _ r b _ _ (sel_apply r) fun f => mask_apply w g hw v1 v3 (I.n b f) (I.v b f) f b (R.id f b) (R.val f b)

/-- One id's two rows of squared-value sums. -/
theorem sq_row (w : BitVec 16) (g : Fin 10) (hw : Ideal.ofBits .bf16 w = ((g.val : ℝ) : EReal)) (r : Fin 2) (b : Fin 4096) :
    matmul dot_S2x110_S110x4096_S2x4096_1_0_0_1_n_n none (k0_pay6 (F := Ideal))
        (mulf (select (cmpf .oeq v1 (broadcast S110x4096 (Scalar.ofBits .bf16 w : Ideal .bf16))) v3
          (broadcast S110x4096 (Scalar.ofBits .bf16 0x0000#16 : Ideal .bf16))) v3)
        (constant S2x4096 .f32 0x00000000#32) (ix2 r b) = ((hRow2 I g.val r b : ℝ) : EReal) :=
  dot110 _ _ r b _ (fun f => (if (I.n b f).val = g.val then I.v b f else 0) * I.v b f) (sel_apply r) fun f =>
    (congrArg₂ (fun a c : EReal => a * c)
      (mask_apply w g hw v1 v3 (I.n b f) (I.v b f) f b (R.id f b) (R.val f b)) (R.val f b)).trans (EReal.coe_mul _ _).symm

/-- One id's two rows of prior sums. -/
theorem prior_row (g : Fin 10) (r : Fin 2) (b : Fin 4096) :
    matmul dot_S2x10_S10x4096_S2x4096_1_0_0_1_n_n none v28
        (sitofp (F := Ideal) .f32 (extui 32 (cmpi .eq v5 (broadcast S10x4096 (BitVec.ofNat 32 g.val))) natLt_1_32))
        (constant S2x4096 .f32 0x00000000#32) (ix2 r b) = ((pRow I g.val r b : ℝ) : EReal) :=
  dot10 _ _ r b _ _ (R.prior r) fun j => bit_apply g v5 (I.u b j) j b (R.cid j b)

end

/-! ## The three gathered matrices -/

/-- A matrix of ten two-row pieces and twelve zero rows, at an index. -/
theorem concat_apply (p : Fin 10 → FVec Ideal S2x4096 .f32) (z : FVec Ideal S12x4096 .f32) (h : ℕ → Fin 2 → Fin 4096 → ℝ)
    (hp : ∀ g r b, p g (ix2 r b) = ((h g.val r b : ℝ) : EReal)) (hz : ∀ r b, z (ix2 r b) = 0) (l : Fin 32) (b : Fin 4096) :
    concatenate S32x4096 0 [⟨S2x4096, p 0⟩, ⟨S2x4096, p 1⟩, ⟨S2x4096, p 2⟩, ⟨S2x4096, p 3⟩, ⟨S2x4096, p 4⟩, ⟨S2x4096, p 5⟩,
        ⟨S2x4096, p 6⟩, ⟨S2x4096, p 7⟩, ⟨S2x4096, p 8⟩, ⟨S2x4096, p 9⟩, ⟨S12x4096, z⟩]
        concatenates_S2x4096_S2x4096_S2x4096_S2x4096_S2x4096_S2x4096_S2x4096_S2x4096_S2x4096_S2x4096_S12x4096_S32x4096_d0 (ix2 l b)
      = ((if l.val < 20 then h (l.val / 2) ⟨l.val % 2, by omega⟩ b else 0 : ℝ) : EReal) := by
  pointwise
  simp only [hp, hz]
  fin_vals l with hl
  all_goals simp [hl]

/-- Row `l` of the matrix gathered from per-id rows `h`. -/
def stack (h : ℕ → Fin 2 → Fin 4096 → ℝ) (l : Fin 32) (b : Fin 4096) : ℝ :=
  if l.val < 20 then h (l.val / 2) ⟨l.val % 2, by omega⟩ b else 0

/-- The zero rows. -/
theorem zeros_apply (r : Fin 12) (b : Fin 4096) : k0_pay43 (F := Ideal) (ix2 r b) = 0 := by
  pointwise [k0_pay43]

section
variable {I : Inputs} {x0 x1 : FVec Ideal S110x4096 .bf16} {x2 : IVec S10x4096 32} {x6 : FVec Ideal S2x10 .f32}
  (R : Rows I (k0_pay2 (F := Ideal) x0) (k0_pay3 (F := Ideal) x1) (k0_pay4 (F := Ideal) x2) (k0_pay7 (F := Ideal) x6))
include R

/-- The gathered value sums. -/
theorem H_apply (l : Fin 32) (b : Fin 4096) :
    k0_pay44 (F := Ideal) (k0_pay2 (F := Ideal) x0) (k0_pay3 (F := Ideal) x1) ((k0_pay6 (F := Ideal))) (k0_pay9 (F := Ideal) x0 x1) (k0_pay14 (F := Ideal) (k0_pay2 (F := Ideal) x0) (k0_pay3 (F := Ideal) x1) (k0_pay6 (F := Ideal)))
        (k0_pay18 (F := Ideal) (k0_pay2 (F := Ideal) x0) (k0_pay3 (F := Ideal) x1) (k0_pay6 (F := Ideal))) (k0_pay22 (F := Ideal) (k0_pay2 (F := Ideal) x0) (k0_pay3 (F := Ideal) x1) (k0_pay6 (F := Ideal)))
        (k0_pay27 (F := Ideal) (k0_pay3 (F := Ideal) x1) (k0_pay6 (F := Ideal)) (k0_pay25 (F := Ideal) (k0_pay2 (F := Ideal) x0)) (Scalar.ofBits .bf16 0x0000#16))
        (k0_pay31 (F := Ideal) (k0_pay2 (F := Ideal) x0) (k0_pay3 (F := Ideal) x1) (k0_pay6 (F := Ideal))) (k0_pay35 (F := Ideal) (k0_pay2 (F := Ideal) x0) (k0_pay3 (F := Ideal) x1) (k0_pay6 (F := Ideal)))
        (k0_pay40 (F := Ideal) (k0_pay2 (F := Ideal) x0) (k0_pay3 (F := Ideal) x1) (k0_pay6 (F := Ideal))) (ix2 l b) = ((stack (hRow I) l b : ℝ) : EReal) :=
  concat_apply ![_, _, _, _, _, _, _, _, _, _] _ (hRow I) (fun g r b => by
    match g with
    | 0 => exact val_row R 0x0000#16 0 (by simp) r b
    | 1 => exact val_row R 0x3F80#16 1 (by simp) r b
    | 2 => exact val_row R 0x4000#16 2 two_bf16 r b
    | 3 => exact val_row R 0x4040#16 3 three_bf16 r b
    | 4 => exact val_row R 0x4080#16 4 four_bf16 r b
    | 5 => exact val_row R 0x40A0#16 5 five_bf16 r b
    | 6 => exact val_row R 0x40C0#16 6 six_bf16 r b
    | 7 => exact val_row R 0x40E0#16 7 seven_bf16 r b
    | 8 => exact val_row R 0x4100#16 8 eight_bf16 r b
    | 9 => exact val_row R 0x4110#16 9 nine_bf16 r b) zeros_apply l b

/-- The gathered sums of squared values. -/
theorem H2_apply (l : Fin 32) (b : Fin 4096) :
    k0_pay45 (F := Ideal) (k0_pay2 (F := Ideal) x0) (k0_pay3 (F := Ideal) x1) ((k0_pay6 (F := Ideal))) (k0_pay10 (F := Ideal) x0 x1) (k0_pay15 (F := Ideal) (k0_pay2 (F := Ideal) x0) (k0_pay3 (F := Ideal) x1) (k0_pay6 (F := Ideal)))
        (k0_pay19 (F := Ideal) (k0_pay2 (F := Ideal) x0) (k0_pay3 (F := Ideal) x1) (k0_pay6 (F := Ideal))) (k0_pay23 (F := Ideal) (k0_pay2 (F := Ideal) x0) (k0_pay3 (F := Ideal) x1) (k0_pay6 (F := Ideal)))
        (k0_pay28 (F := Ideal) (k0_pay3 (F := Ideal) x1) (k0_pay6 (F := Ideal)) (k0_pay25 (F := Ideal) (k0_pay2 (F := Ideal) x0)) (Scalar.ofBits .bf16 0x0000#16))
        (k0_pay32 (F := Ideal) (k0_pay2 (F := Ideal) x0) (k0_pay3 (F := Ideal) x1) (k0_pay6 (F := Ideal))) (k0_pay36 (F := Ideal) (k0_pay2 (F := Ideal) x0) (k0_pay3 (F := Ideal) x1) (k0_pay6 (F := Ideal)))
        (k0_pay39 (F := Ideal) (k0_pay2 (F := Ideal) x0) (k0_pay3 (F := Ideal) x1)) (constant S2x4096 .f32 0x00000000#32) (ix2 l b) = ((stack (hRow2 I) l b : ℝ) : EReal) :=
  concat_apply ![_, _, _, _, _, _, _, _, _, _] _ (hRow2 I) (fun g r b => by
    match g with
    | 0 => exact sq_row R 0x0000#16 0 (by simp) r b
    | 1 => exact sq_row R 0x3F80#16 1 (by simp) r b
    | 2 => exact sq_row R 0x4000#16 2 two_bf16 r b
    | 3 => exact sq_row R 0x4040#16 3 three_bf16 r b
    | 4 => exact sq_row R 0x4080#16 4 four_bf16 r b
    | 5 => exact sq_row R 0x40A0#16 5 five_bf16 r b
    | 6 => exact sq_row R 0x40C0#16 6 six_bf16 r b
    | 7 => exact sq_row R 0x40E0#16 7 seven_bf16 r b
    | 8 => exact sq_row R 0x4100#16 8 eight_bf16 r b
    | 9 => exact sq_row R 0x4110#16 9 nine_bf16 r b) zeros_apply l b

/-- The gathered prior sums. -/
theorem Hp_apply (l : Fin 32) (b : Fin 4096) :
    k0_pay46 (F := Ideal) (k0_pay4 (F := Ideal) x2) (k0_pay7 (F := Ideal) x6) (k0_pay12 (F := Ideal) (k0_pay7 (F := Ideal) x6) (k0_pay11 (F := Ideal) x2)) (k0_pay16 (F := Ideal) (k0_pay4 (F := Ideal) x2) (k0_pay7 (F := Ideal) x6))
        (k0_pay20 (F := Ideal) (k0_pay4 (F := Ideal) x2) (k0_pay7 (F := Ideal) x6)) (k0_pay24 (F := Ideal) (k0_pay4 (F := Ideal) x2) (k0_pay7 (F := Ideal) x6))
        (k0_pay29 (F := Ideal) (k0_pay4 (F := Ideal) x2) (k0_pay7 (F := Ideal) x6)) (k0_pay33 (F := Ideal) (k0_pay4 (F := Ideal) x2) (k0_pay7 (F := Ideal) x6))
        (k0_pay37 (F := Ideal) (k0_pay4 (F := Ideal) x2) (k0_pay7 (F := Ideal) x6)) (ix2 l b) = ((stack (pRow I) l b : ℝ) : EReal) :=
  concat_apply ![_, _, _, _, _, _, _, _, _, _] _ (pRow I) (fun g r b => by
    match g with
    | 0 => exact prior_row R 0 r b
    | 1 => exact prior_row R 1 r b
    | 2 => exact prior_row R 2 r b
    | 3 => exact prior_row R 3 r b
    | 4 => exact prior_row R 4 r b
    | 5 => exact prior_row R 5 r b
    | 6 => exact prior_row R 6 r b
    | 7 => exact prior_row R 7 r b
    | 8 => exact prior_row R 8 r b
    | 9 => exact prior_row R 9 r b) zeros_apply l b

end

end Cert.Fm

end
-- ==== Proof.KernelScore.lean ====
/- The kernel's second half at an index: the gathered matrices contracted with the tables, the two interaction formulas, and the
   result row as the score of the inputs plus the global bias. -/
module

public import proofs.«01_k».proof.Proof.KernelRows

@[expose] public section

set_option maxRecDepth 16384

noncomputable section

open scoped BigOperators

namespace Cert.Fm

open Idealize.ShloMosaic Cert.KernelIdeal Cert.KernelIdeal.Gen

/-! ## Sums over ids turned back into sums over features -/

/-- Coefficients against the value sums. -/
theorem sum_hRow (I : Inputs) (A : Fin 10 → ℝ) (r : Fin 2) (b : Fin 4096) :
    ∑ g : Fin 10, A g * hRow I g.val r b = ∑ f, wt r f * (A (I.n b f) * I.v b f) := by
  have e : ∀ g : Fin 10, hRow I g.val r b = ∑ f, if (I.n b f).val = g.val then wt r f * I.v b f else 0 := fun g =>
    Finset.sum_congr rfl fun f _ => by split <;> simp
  simp only [e]
  rw [sum_group]
  exact Finset.sum_congr rfl fun f _ => by ring

/-- Coefficients against the squared-value sums. -/
theorem sum_hRow2 (I : Inputs) (A : Fin 10 → ℝ) (r : Fin 2) (b : Fin 4096) :
    ∑ g : Fin 10, A g * hRow2 I g.val r b = ∑ f, wt r f * (A (I.n b f) * (I.v b f * I.v b f)) := by
  have e : ∀ g : Fin 10, hRow2 I g.val r b = ∑ f, if (I.n b f).val = g.val then wt r f * (I.v b f * I.v b f) else 0 := fun g =>
    Finset.sum_congr rfl fun f _ => by split <;> simp
  simp only [e]
  rw [sum_group]
  exact Finset.sum_congr rfl fun f _ => by ring

/-- Coefficients against the prior sums. -/
theorem sum_pRow (I : Inputs) (A : Fin 10 → ℝ) (r : Fin 2) (b : Fin 4096) :
    ∑ g : Fin 10, A g * pRow I g.val r b = ∑ j, A (I.u b j) * (if r.val = 0 then I.p j else I.p j * I.p j) := by
  have e : ∀ g : Fin 10, pRow I g.val r b
      = ∑ j, if (I.u b j).val = g.val then (if r.val = 0 then I.p j else I.p j * I.p j) else 0 := fun g =>
    Finset.sum_congr rfl fun j _ => by split <;> simp
  simp only [e]
  exact sum_group A (I.u b) _

/-- A table shifted by the least id, at a confidence id of a row: the row of the table that the id reads. -/
theorem sum_shift (I : Inputs) (A : Fin 16 → ℝ) (b : Fin 4096) (j : Fin 10) :
    ∑ i : Fin 16, A i * (if i.val + I.m.val = (I.u b j).val then (1 : ℝ) else 0) = A ⟨(I.d b j).val, by omega⟩ := by
  have hm : I.m.val ≤ (I.u b j).val := I.m_le b j
  have hd : (I.d b j).val = (I.u b j).val - I.m.val := rfl
  rw [Finset.sum_eq_single (⟨(I.d b j).val, by omega⟩ : Fin 16)]
  · rw [if_pos (by show (I.d b j).val + I.m.val = _; omega), mul_one]
  · intro i _ hi
    have : i.val ≠ (I.d b j).val := fun h => hi (Fin.ext h)
    rw [if_neg (by omega), mul_zero]
  · simp

/-! ## The matrix products of the second half -/

/-- A 64-row table times a sixteen-row matrix of sixteen columns. -/
theorem dot16 (x : FVec Ideal S64x16 .f32) (y : FVec Ideal S16x16 .f32) (k : Fin 64) (j : Fin 16) (xr yr : Fin 16 → ℝ)
    (hx : ∀ i, x (ix2 k i) = ((xr i : ℝ) : EReal)) (hy : ∀ i, y (ix2 i j) = ((yr i : ℝ) : EReal)) :
    matmul dot_S64x16_S16x16_S64x16_1_0_0_1_n_n none x y (constant S64x16 .f32 0x00000000#32) (ix2 k j)
      = ((∑ i, xr i * yr i : ℝ) : EReal) := by
  pointwise
  simp only [hx, hy, zero_add]
  exact coe_dot xr yr

/-- A 64-row table expanded to 32 columns. -/
theorem dot16x32 (x : FVec Ideal S64x16 .f32) (y : FVec Ideal S16x32 .f32) (k : Fin 64) (l : Fin 32) (xr yr : Fin 16 → ℝ)
    (hx : ∀ i, x (ix2 k i) = ((xr i : ℝ) : EReal)) (hy : ∀ i, y (ix2 i l) = ((yr i : ℝ) : EReal)) :
    matmul dot_S64x16_S16x32_S64x32_1_0_0_1_n_n none x y (constant S64x32 .f32 0x00000000#32) (ix2 k l)
      = ((∑ i, xr i * yr i : ℝ) : EReal) := by
  pointwise
  simp only [hx, hy, zero_add]
  exact coe_dot xr yr

/-- An expanded table times a gathered matrix. -/
theorem dot32 (x : FVec Ideal S64x32 .f32) (y : FVec Ideal S32x4096 .f32) (k : Fin 64) (b : Fin 4096) (xr yr : Fin 32 → ℝ)
    (hx : ∀ i, x (ix2 k i) = ((xr i : ℝ) : EReal)) (hy : ∀ i, y (ix2 i b) = ((yr i : ℝ) : EReal)) :
    matmul dot_S64x32_S32x4096_S64x4096_1_0_0_1_n_n none x y (constant S64x4096 .f32 0x00000000#32) (ix2 k b)
      = ((∑ i, xr i * yr i : ℝ) : EReal) := by
  pointwise
  simp only [hx, hy, zero_add]
  exact coe_dot xr yr

/-- The bias row times a gathered matrix. -/
theorem dotBias (x : FVec Ideal S1x32 .f32) (y : FVec Ideal S32x4096 .f32) (b : Fin 4096) (xr yr : Fin 32 → ℝ)
    (hx : ∀ i, x (ix2 0 i) = ((xr i : ℝ) : EReal)) (hy : ∀ i, y (ix2 i b) = ((yr i : ℝ) : EReal)) :
    matmul dot_S1x32_S32x4096_S1x4096_1_0_0_1_n_n none x y (constant S1x4096 .f32 0x00000000#32) (ix2 0 b)
      = ((∑ i, xr i * yr i : ℝ) : EReal) := by
  pointwise
  simp only [hx, hy, zero_add]
  exact coe_dot xr yr

/-- A row of ones times a 64-row matrix: its column sums. -/
theorem dotOnes (x : FVec Ideal S1x64 .f32) (y : FVec Ideal S64x4096 .f32) (b : Fin 4096) (xr yr : Fin 64 → ℝ)
    (hx : ∀ i, x (ix2 0 i) = ((xr i : ℝ) : EReal)) (hy : ∀ i, y (ix2 i b) = ((yr i : ℝ) : EReal)) :
    matmul dot_S1x64_S64x4096_S1x4096_1_0_0_1_n_n none x y (constant S1x4096 .f32 0x00000000#32) (ix2 0 b)
      = ((∑ i, xr i * yr i : ℝ) : EReal) := by
  pointwise
  simp only [hx, hy, zero_add]
  exact coe_dot xr yr

/-- A table expanded to the columns of one parity and multiplied with a gathered matrix: the table against that parity's rows. -/
theorem expand_apply (A : FVec Ideal S64x16 .f32) (X : FVec Ideal S16x32 .f32) (H : FVec Ideal S32x4096 .f32) (r : Fin 2)
    (h : ℕ → Fin 2 → Fin 4096 → ℝ) (k : Fin 64) (b : Fin 4096) (Ar : Fin 16 → ℝ) (hA : ∀ i, A (ix2 k i) = ((Ar i : ℝ) : EReal))
    (hX : ∀ i l, X (ix2 i l) = ((if l.val = 2 * i.val + r.val then 1 else 0 : ℝ) : EReal))
    (hH : ∀ l, H (ix2 l b) = ((stack h l b : ℝ) : EReal)) :
    matmul dot_S64x32_S32x4096_S64x4096_1_0_0_1_n_n none
        (matmul dot_S64x16_S16x32_S64x32_1_0_0_1_n_n none A X (constant S64x32 .f32 0x00000000#32)) H
        (constant S64x4096 .f32 0x00000000#32) (ix2 k b)
      = ((∑ g : Fin 10, Ar ⟨g.val, by omega⟩ * h g.val r b : ℝ) : EReal) := by
  refine (dot32 _ _ k b (fun l => ∑ i : Fin 16, Ar i * (if l.val = 2 * i.val + r.val then (1 : ℝ) else 0)) (fun l => stack h l b)
    (fun l => dot16x32 A X k l Ar _ hA fun i => hX i l) hH).trans (congrArg _ ?_)
  rw [sum_expand r Ar (fun l => stack h l b) fun l hl => by unfold stack; rw [if_neg (by omega)]]
  refine Finset.sum_congr rfl fun g _ => ?_
  have hr := r.isLt
  have hg := g.isLt
  have e1 : (2 * g.val + r.val) / 2 = g.val := by omega
  have e2 : (⟨(2 * g.val + r.val) % 2, by omega⟩ : Fin 2) = r := Fin.ext (by show (2 * g.val + r.val) % 2 = r.val; omega)
  unfold stack
  rw [if_pos (by show 2 * g.val + r.val < 20; omega)]
  dsimp only
  rw [e1, e2]

/-! ## The expanding matrices and the shift -/

/-- Twice a small word is the word of twice the number. -/
theorem two_muli (i : Fin 16) : IntOp.muli 2#32 (BitVec.ofNat 32 i.val) = BitVec.ofNat 32 (2 * i.val) := by
  revert i; decide

/-- One more than twice a small word. -/
theorem two_muli_succ (i : Fin 16) :
    IntOp.addi (IntOp.muli 2#32 (BitVec.ofNat 32 i.val)) 1#32 = BitVec.ofNat 32 (2 * i.val + 1) := by
  revert i; decide

/-- Row `i` of the shift tests column `j` against `i` plus the shift. -/
theorem shift_cmpi (i j : Fin 16) (m : Fin 10) :
    IntOp.cmpi .eq (BitVec.ofNat 32 i.val) (IntOp.subi (BitVec.ofNat 32 j.val) (BitVec.ofNat 32 m.val))
      = if i.val + m.val = j.val then 1#1 else 0#1 := by
  revert i j m; decide

/-- The matrix that sends table column `i` to column `2 i`. -/
theorem even_apply (i : Fin 16) (l : Fin 32) :
    k0_pay47 (F := Ideal) (ix2 i l) = ((if l.val = 2 * i.val + (0 : Fin 2).val then 1 else 0 : ℝ) : EReal) := by
  pointwise [k0_pay47]
  rw [two_muli, cmpi_eq_ofNat _ _ (by omega) (by omega)]
  exact bit_real _

/-- The matrix that sends table column `i` to column `2 i + 1`. -/
theorem odd_apply (i : Fin 16) (l : Fin 32) :
    (sitofp .f32 (extui 32 (cmpi .eq (iota .tc S16x32 32 [1] iota_S16x32_d1_w32)
        (addi k0_pay48 (broadcast S16x32 1#32))) natLt_1_32) : FVec Ideal S16x32 .f32) (ix2 i l)
      = ((if l.val = 2 * i.val + (1 : Fin 2).val then 1 else 0 : ℝ) : EReal) := by
  pointwise [k0_pay48]
  rw [two_muli_succ, cmpi_eq_ofNat _ _ (by omega) (by omega)]
  exact bit_real _

/-- The matrix that shifts a table by the least id. -/
theorem shift_apply (m : Fin 10) (i j : Fin 16) :
    (sitofp .f32 (extui 32 (cmpi .eq (iota .tc S16x16 32 [0] iota_S16x16_d0_w32)
        (subi (iota .tc S16x16 32 [1] iota_S16x16_d1_w32) (broadcast S16x16 (BitVec.ofNat 32 m.val)))) natLt_1_32) :
          FVec Ideal S16x16 .f32) (ix2 i j)
      = ((if i.val + m.val = j.val then 1 else 0 : ℝ) : EReal) := by
  pointwise
  rw [shift_cmpi]
  exact bit_real _

/-! ## The interaction formulas -/

/-- A table of ten rows as sixteen columns, the last six of them zero. -/
def tab (T : Fin 10 → Fin 64 → ℝ) (k : Fin 64) (i : Fin 16) : ℝ := if h : i.val < 10 then T ⟨i.val, h⟩ k else 0

/-- Its first ten columns are the table's rows. -/
theorem tab_lt (T : Fin 10 → Fin 64 → ℝ) (k : Fin 64) (g : Fin 10) : tab T k ⟨g.val, by omega⟩ = T g k := by
  unfold tab; rw [dif_pos g.isLt]

/-- The bias row: the biases at the even columns. -/
def biasRow (B : Fin 10 → ℝ) (l : Fin 32) : ℝ := if h : l.val % 2 = 0 ∧ l.val / 2 < 10 then B ⟨l.val / 2, h.2⟩ else 0

/-- The bias row against a stack of gathered rows. -/
theorem sum_biasRow (B : Fin 10 → ℝ) (H : Fin 32 → ℝ) (hH : ∀ l : Fin 32, 20 ≤ l.val → H l = 0) :
    ∑ l, biasRow B l * H l = ∑ g : Fin 10, B g * H ⟨2 * g.val, by omega⟩ := by
  have e : ∀ l, biasRow B l = ∑ i : Fin 16, tab (fun g _ => B g) 0 i * (if l.val = 2 * i.val + (0 : Fin 2).val then (1 : ℝ) else 0) := by
    intro l
    by_cases h : l.val % 2 = 0
    · rw [Finset.sum_eq_single (⟨l.val / 2, by omega⟩ : Fin 16)]
      · rw [if_pos (by show l.val = 2 * (l.val / 2) + 0; omega), mul_one]
        by_cases h2 : l.val / 2 < 10
        · unfold biasRow tab; rw [dif_pos ⟨h, h2⟩, dif_pos h2]
        · unfold biasRow tab; rw [dif_neg (fun x => h2 x.2), dif_neg h2]
      · intro i _ hi
        have : i.val ≠ l.val / 2 := fun x => hi (Fin.ext x)
        rw [if_neg (by show ¬ l.val = 2 * i.val + 0; omega), mul_zero]
      · simp
    · have : biasRow B l = 0 := by unfold biasRow; rw [dif_neg (fun x => h x.1)]
      rw [this]
      refine (Finset.sum_eq_zero fun i _ => ?_).symm
      rw [if_neg (by show ¬ l.val = 2 * i.val + 0; omega), mul_zero]
  simp only [e]
  rw [sum_expand 0 _ H hH]
  exact Finset.sum_congr rfl fun g _ => by rw [tab_lt]; rfl

/-- The first interaction formula over real numbers. -/
theorem inter_coe (a b c d : EReal) (a' b' c' d' : ℝ) (ha : a = a') (hb : b = b') (hc : c = c') (hd : d = d') :
    Ideal.ofBits .f32 0x3F000000#32 * ((a + b) * (a + b) - (c + d))
      = (((1 / 2) * ((a' + b') * (a' + b') - (c' + d')) : ℝ) : EReal) := by
  rw [ha, hb, hc, hd, half_f32]; norm_cast

section

variable (I : Inputs) (h h2 hp : FVec Ideal S32x4096 .f32) (x3 x4 : Vec Ideal S64x16 .f32)
  (hh : ∀ l b, h (ix2 l b) = ((stack (hRow I) l b : ℝ) : EReal))
  (hh2 : ∀ l b, h2 (ix2 l b) = ((stack (hRow2 I) l b : ℝ) : EReal))
  (hhp : ∀ l b, hp (ix2 l b) = ((stack (pRow I) l b : ℝ) : EReal))
  (h3 : ∀ k i, x3 (ix2 k i) = ((tab I.E k i : ℝ) : EReal))
  (h4 : ∀ k i, x4 (ix2 k i) = ((tab I.C k i : ℝ) : EReal))

include h3 in
/-- The embedding table as the second half reads it. -/
theorem emb_apply (k : Fin 64) (i : Fin 16) : k0_pay49 (F := Ideal) x3 (ix2 k i) = ((tab I.E k i : ℝ) : EReal) := by
  pointwise [k0_pay49]
  exact h3 k i

include h3 in
/-- Its square. -/
theorem emb2_apply (k : Fin 64) (i : Fin 16) :
    k0_pay50 (F := Ideal) x3 (ix2 k i) = ((tab I.E k i * tab I.E k i : ℝ) : EReal) := by
  have e : k0_pay50 (F := Ideal) x3 (ix2 k i) = k0_pay49 (F := Ideal) x3 (ix2 k i) * k0_pay49 (F := Ideal) x3 (ix2 k i) := rfl
  rw [e, emb_apply I x3 h3, EReal.coe_mul]

include hh2 h3 in
/-- The sum of the squares of all weighted embeddings. -/
theorem full2_apply (k : Fin 64) (b : Fin 4096) :
    k0_pay51 (F := Ideal) h2 (k0_pay47 (F := Ideal)) x3 (ix2 k b) = ((I.full2 b k : ℝ) : EReal) := by
  refine (expand_apply _ _ _ 0 (hRow2 I) k b _ (emb2_apply I x3 h3 k) even_apply (fun l => hh2 l b)).trans (congrArg _ ?_)
  simp only [tab_lt]
  rw [sum_hRow2 I (fun g => I.E g k * I.E g k)]
  refine Finset.sum_congr rfl fun f _ => ?_
  have : wt 0 f = 1 := by simp [wt]
  rw [this]; ring

include hh h3 in
/-- The sum of all weighted embeddings. -/
theorem full_apply (k : Fin 64) (b : Fin 4096) :
    matmul dot_S64x32_S32x4096_S64x4096_1_0_0_1_n_n none
        (matmul dot_S64x16_S16x32_S64x32_1_0_0_1_n_n none (k0_pay49 (F := Ideal) x3) (k0_pay47 (F := Ideal))
          (constant S64x32 .f32 0x00000000#32)) h (constant S64x4096 .f32 0x00000000#32) (ix2 k b)
      = ((I.full b k : ℝ) : EReal) := by
  refine (expand_apply _ _ _ 0 (hRow I) k b _ (emb_apply I x3 h3 k) even_apply (fun l => hh l b)).trans (congrArg _ ?_)
  simp only [tab_lt]
  rw [sum_hRow I (fun g => I.E g k)]
  refine Finset.sum_congr rfl fun f _ => ?_
  have : wt 0 f = 1 := by simp [wt]
  rw [this]; ring

include hh hh2 hhp h3 h4 in
/-- The mediated feature. -/
theorem med_apply (k : Fin 64) (b : Fin 4096) :
    k0_pay52 (F := Ideal) (BitVec.ofNat 32 I.m.val) h h2 hp (iota .tc S16x32 32 [1] iota_S16x32_d1_w32) (k0_pay47 (F := Ideal))
        k0_pay48 x3 x4 (ix2 k b) = ((I.med b k : ℝ) : EReal) := by
  have c4 : ∀ i, shapeCast S64x16 x4 shapeCasts_S64x16_S64x16 (ix2 k i) = ((tab I.C k i : ℝ) : EReal) := fun i => by
    pointwise
    exact h4 k i
  have c42 : ∀ i, (mulf (shapeCast S64x16 x4 shapeCasts_S64x16_S64x16) (shapeCast S64x16 x4 shapeCasts_S64x16_S64x16) :
      FVec Ideal S64x16 .f32) (ix2 k i) = ((tab I.C k i * tab I.C k i : ℝ) : EReal) := fun i => by
    rw [EReal.coe_mul, ← c4 i]; rfl
  have e1 := expand_apply _ _ h 1 (hRow I) k b _ (emb_apply I x3 h3 k) odd_apply (fun l => hh l b)
  have e2 := expand_apply _ _ h2 1 (hRow2 I) k b _ (emb2_apply I x3 h3 k) odd_apply (fun l => hh2 l b)
  have e3 := expand_apply _ _ hp 0 (pRow I) k b _ (fun j => dot16 _ _ k j _ _ c4 fun i => shift_apply I.m i j) even_apply
    (fun l => hhp l b)
  have e4 := expand_apply _ _ hp 1 (pRow I) k b _ (fun j => dot16 _ _ k j _ _ c42 fun i => shift_apply I.m i j) odd_apply
    (fun l => hhp l b)
  refine (inter_coe _ _ _ _ _ _ _ _ e1 e3 e2 e4).trans (congrArg _ ?_)
  have f1 : ∑ g : Fin 10, tab I.E k ⟨g.val, by omega⟩ * hRow I g.val 1 b = I.user b k := by
    simp only [tab_lt]
    rw [sum_hRow I (fun g => I.E g k), sum_wt_one]; rfl
  have f2 : ∑ g : Fin 10, tab I.E k ⟨g.val, by omega⟩ * tab I.E k ⟨g.val, by omega⟩ * hRow2 I g.val 1 b = I.user2 b k := by
    simp only [tab_lt]
    rw [sum_hRow2 I (fun g => I.E g k * I.E g k), sum_wt_one]
    exact Finset.sum_congr rfl fun f _ => by ring
  have f3 : ∑ g : Fin 10, (∑ i : Fin 16, tab I.C k i * (if i.val + I.m.val = g.val then (1 : ℝ) else 0)) * pRow I g.val 0 b
      = I.conf b k := by
    rw [sum_pRow I (fun g => ∑ i : Fin 16, tab I.C k i * (if i.val + I.m.val = g.val then (1 : ℝ) else 0))]
    refine Finset.sum_congr rfl fun j _ => ?_
    rw [sum_shift I, tab_lt]; simp
  have f4 : ∑ g : Fin 10, (∑ i : Fin 16, tab I.C k i * tab I.C k i * (if i.val + I.m.val = g.val then (1 : ℝ) else 0)) * pRow I g.val 1 b
      = I.conf2 b k := by
    rw [sum_pRow I (fun g => ∑ i : Fin 16, tab I.C k i * tab I.C k i * (if i.val + I.m.val = g.val then (1 : ℝ) else 0))]
    refine Finset.sum_congr rfl fun j _ => ?_
    rw [sum_shift I (fun i => tab I.C k i * tab I.C k i), tab_lt]
    simp only [Fin.val_one, one_ne_zero, if_false]; ring
  rw [f1, f2, f3, f4]; rfl

variable (x5 : Vec Ideal S1x32 .f32) (x7 : Vec Ideal S1x1 .f32) (h5 : ∀ l, x5 (ix2 0 l) = ((biasRow I.B l : ℝ) : EReal))

include hh hh2 hhp h3 h4 h5 in
/-- The result row: the score of every row plus the global bias. -/
theorem out_apply (b : Fin 4096) :
    k0_pay1 (F := Ideal) h (k0_pay51 (F := Ideal) h2 (k0_pay47 (F := Ideal)) x3)
        (k0_pay53 (F := Ideal) (BitVec.ofNat 32 I.m.val) h h2 hp (iota .tc S16x32 32 [1] iota_S16x32_d1_w32)
          (k0_pay47 (F := Ideal)) k0_pay48 x3 x4)
        (k0_pay54 (F := Ideal) (BitVec.ofNat 32 I.m.val) h h2 hp (iota .tc S16x32 32 [1] iota_S16x32_d1_w32)
          (k0_pay47 (F := Ideal)) k0_pay48 x3 x4) x5 x7 (ix2 0 b)
      = ((I.score b : ℝ) : EReal) + x7 (ix2 0 0) := by
  have hb := full_apply I h x3 hh h3
  have hm := med_apply I h h2 hp x3 x4 hh hh2 hhp h3 h4
  have hf := full2_apply I h2 x3 hh2 h3
  have hmm : ∀ k, k0_pay54 (F := Ideal) (BitVec.ofNat 32 I.m.val) h h2 hp (iota .tc S16x32 32 [1] iota_S16x32_d1_w32)
      (k0_pay47 (F := Ideal)) k0_pay48 x3 x4 (ix2 k b) = ((I.med b k * I.med b k : ℝ) : EReal) := fun k => by
    rw [EReal.coe_mul, ← hm k b]; rfl
  have hone : Ideal.ofBits .f32 0x3F800000#32 = ((1 : ℝ) : EReal) := by simp
  have s1 := dotOnes (broadcast S1x64 (Scalar.ofBits .f32 0x3F800000#32))
    (mulf (broadcast S64x4096 (Scalar.ofBits .f32 0x3F000000#32)) (subf
      (mulf (k0_pay53 (F := Ideal) (BitVec.ofNat 32 I.m.val) h h2 hp (iota .tc S16x32 32 [1] iota_S16x32_d1_w32)
          (k0_pay47 (F := Ideal)) k0_pay48 x3 x4) (k0_pay53 (F := Ideal) (BitVec.ofNat 32 I.m.val) h h2 hp (iota .tc S16x32 32 [1] iota_S16x32_d1_w32)
          (k0_pay47 (F := Ideal)) k0_pay48 x3 x4))
      (addf (k0_pay51 (F := Ideal) h2 (k0_pay47 (F := Ideal)) x3) (k0_pay54 (F := Ideal) (BitVec.ofNat 32 I.m.val) h h2 hp (iota .tc S16x32 32 [1] iota_S16x32_d1_w32)
          (k0_pay47 (F := Ideal)) k0_pay48 x3 x4)))) b (fun _ => 1) (fun k => I.inter b k)
      (fun i => hone) (fun k => inter_coe _ _ _ _ _ _ _ _ (hb k b) (hm k b) (hf k b) (hmm k))
  have c5 : ∀ l, shapeCast S1x32 x5 shapeCasts_S1x32_S1x32 (ix2 0 l) = ((biasRow I.B l : ℝ) : EReal) := fun l => by
    pointwise
    exact h5 l
  have s2 := dotBias (shapeCast S1x32 x5 shapeCasts_S1x32_S1x32) h b _ _ c5 (fun l => hh l b)
  have hl : ∑ l, biasRow I.B l * stack (hRow I) l b = I.lin b := by
    rw [sum_biasRow I.B (fun l => stack (hRow I) l b) fun l hl => by unfold stack; rw [if_neg (by omega)]]
    have : ∀ g : Fin 10, stack (hRow I) ⟨2 * g.val, by omega⟩ b = hRow I g.val 0 b := fun g => by
      have e1 : (2 * g.val) / 2 = g.val := by omega
      have e2 : (⟨(2 * g.val) % 2, by omega⟩ : Fin 2) = 0 := Fin.ext (by show (2 * g.val) % 2 = 0; omega)
      unfold stack
      rw [if_pos (by show 2 * g.val < 20; omega)]
      dsimp only
      rw [e1, e2]
    simp only [this]
    rw [sum_hRow I I.B]
    refine Finset.sum_congr rfl fun f _ => ?_
    have : wt 0 f = 1 := by simp [wt]
    rw [this]; ring
  rw [hl] at s2
  simp only [one_mul] at s1
  have e : extractAt ![0, 0] x7 inpos_S1x1_p0_0 = x7 (ix2 0 0) := by
    unfold extractAt; congr 1; funext a; fin_cases a <;> rfl
  refine (show _ = _ + _ + extractAt ![0, 0] x7 inpos_S1x1_p0_0 from rfl).trans ?_
  rw [e]
  exact congrArg (· + x7 (ix2 0 0)) ((congrArg₂ (· + ·) s1 s2).trans (EReal.coe_add _ _).symm)

end

end Cert.Fm

end
-- ==== Proof.KernelEntry.lean ====
/- What the host operations before the kernel leave in its input arrays, at an index. -/
module

public import proofs.«01_k».proof.Proof.Reference
public import proofs.«01_k».proof.Proof.KernelScore
public import Idealize.ShloMosaic.Lib.StableHlo.ReadAt

@[expose] public section

set_option maxRecDepth 16384

noncomputable section

open scoped BigOperators

namespace Cert.Fm

open Idealize.ShloMosaic Cert.KernelIdeal Cert.KernelIdeal.Gen

/-- What the kernel's body stores, over its eight staged inputs: at column `b` the score plus the global bias. -/
theorem body_value {I : Inputs} {x0 x1 : Vec Ideal S110x4096 .bf16} {x2 : Vec Ideal S10x4096 .i32} {x3 x4 : Vec Ideal S64x16 .f32}
    {x5 : Vec Ideal S1x32 .f32} {x6 : Vec Ideal S2x10 .f32} {x7 : Vec Ideal S1x1 .f32}
    (R : Rows I (k0_pay2 (F := Ideal) x0) (k0_pay3 (F := Ideal) x1) (k0_pay4 (F := Ideal) x2) (k0_pay7 (F := Ideal) x6))
    (hm : extractAt ![0, 0, 0] (k0_pay5 (F := Ideal) x2) inpos_S1x1x1_p0_0_0 = BitVec.ofNat 32 I.m.val)
    (h3 : ∀ k i, x3 (ix2 k i) = ((tab I.E k i : ℝ) : EReal)) (h4 : ∀ k i, x4 (ix2 k i) = ((tab I.C k i : ℝ) : EReal))
    (h5 : ∀ l, x5 (ix2 0 l) = ((biasRow I.B l : ℝ) : EReal)) (b : Fin 4096) :
    out0_8 (F := Ideal) x0 x1 x2 x3 x4 x5 x6 x7 (ix2 0 b) = ((I.score b : ℝ) : EReal) + x7 (ix2 0 0) := by
  have hz : (![0, 0] : Fin 2 → Nat) = fun _ => 0 := funext fun a => by fin_cases a <;> rfl
  have ho := out_apply I _ _ _ x3 x4 (H_apply R) (H2_apply R) (Hp_apply R) h3 h4 x5 x7 h5 b
  rw [← hm] at ho
  unfold_out out0_8
  rw [View.canon_unit_zero hz]
  have l0 : View.ld x0 r0_0 = x0 := View.ld_unit_zero hz _ _
  have l1 : View.ld x1 r0_0 = x1 := View.ld_unit_zero hz _ _
  have l2 : View.ld x2 r0_1 = x2 := View.ld_unit_zero hz _ _
  have l3 : View.ld x3 r0_3 = x3 := View.ld_unit_zero hz _ _
  have l4 : View.ld x4 r0_3 = x4 := View.ld_unit_zero hz _ _
  have l5 : View.ld x5 r0_4 = x5 := View.ld_unit_zero hz _ _
  have l6 : View.ld x6 r0_2 = x6 := View.ld_unit_zero hz _ _
  have l7 : View.ld x7 r0_5 = x7 := View.ld_unit_zero hz _ _
  rw [l0, l1, l2, l3, l4, l5, l6, l7]
  exact ho

/-- The word zero as a number. -/
theorem zero_word : (FloatOps.sitofp .f32 0#32 : Ideal .f32) = ((0 : ℝ) : EReal) := by
  show (((0#32 : BitVec 32).toInt : ℝ) : EReal) = _
  simp

section

variable {I : Inputs} (m : (ℓ : Loc nD τ sig) → Buf (Elt Ideal) ℓ) (c : Dev nD)
  (H : Args I (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6)))

include H

/-- The transposed ids, as numbers. -/
theorem in_id (f : Fin 110) (b : Fin 4096) :
    (V m c main_v1 : FVec Ideal S110x4096 .bf16) (ix2 f b) = (((I.n b f).val : ℝ) : EReal) := by
  unfold V V0
  after_reads_at
  have e : ∀ g : Fin 10, (FloatOps.sitofp .bf16 (BitVec.ofNat 32 g.val) : Ideal .bf16) = ((g.val : ℝ) : EReal) := fun g => by
    show (((BitVec.ofNat 32 g.val).toInt : ℝ) : EReal) = _
    rw [StableHlo.Predicate.toInt_ofNat_small _ (by omega)]; simp
  exact (congrArg (FloatOps.sitofp (F := Ideal) .bf16) (H.id b f)).trans (e _)

/-- The transposed values. -/
theorem in_val (f : Fin 110) (b : Fin 4096) :
    (V m c main_v3 : FVec Ideal S110x4096 .bf16) (ix2 f b) = ((I.v b f : ℝ) : EReal) := by
  unfold V V0
  after_reads_at
  exact H.val b f

/-- The transposed confidence ids. -/
theorem in_cid (j : Fin 10) (b : Fin 4096) :
    (V m c main_v5 : IVec S10x4096 32) (ix2 j b) = BitVec.ofNat 32 (I.u b j).val := by
  unfold V V0
  after_reads_at
  exact H.id b _

/-- The embedding table, padded to sixteen columns. -/
theorem in_emb (k : Fin 64) (i : Fin 16) :
    (V m c main_v8 : FVec Ideal S64x16 .f32) (ix2 k i) = ((tab I.E k i : ℝ) : EReal) := by
  unfold V V0
  after_reads_at
  unfold tab
  by_cases h : i.val < 10
  · rw [dif_pos h, dif_pos h]; exact H.emb ⟨i.val, h⟩ ⟨i.val, by omega⟩ k rfl
  · rw [dif_neg h, dif_neg h]; exact zero_word

/-- The confidence table, padded to sixteen columns. -/
theorem in_ctab (k : Fin 64) (i : Fin 16) :
    (V m c main_v10 : FVec Ideal S64x16 .f32) (ix2 k i) = ((tab I.C k i : ℝ) : EReal) := by
  unfold V V0
  after_reads_at
  unfold tab
  by_cases h : i.val < 10
  · rw [dif_pos h, dif_pos h]; exact H.ctab ⟨i.val, h⟩ k
  · rw [dif_neg h, dif_neg h]; exact zero_word

/-- The biases, spread over the even columns. -/
theorem in_bias (l : Fin 32) :
    (V m c main_v14 : FVec Ideal S1x32 .f32) (ix2 0 l) = ((biasRow I.B l : ℝ) : EReal) := by
  unfold V V0
  after_reads_at
  unfold biasRow
  by_cases h : l.val % 2 = 0 ∧ l.val / 2 < 10
  · rw [dif_pos h, dif_pos h]; exact H.bias ⟨l.val / 2, h.2⟩ ⟨l.val / 2, by omega⟩ rfl
  · rw [dif_neg h, dif_neg h]; rfl

/-- The prior, twice. -/
theorem in_prior (r : Fin 2) (j : Fin 10) :
    (V m c main_v17 : FVec Ideal S2x10 .f32) (ix2 r j) = ((I.p j : ℝ) : EReal) := by
  unfold V V0
  after_reads_at
  split <;> exact H.cprior j

/-- The kernel's first four inputs hold the rows of the inputs. -/
theorem in_rows : Rows I (k0_pay2 (F := Ideal) (V m c main_v1)) (k0_pay3 (F := Ideal) (V m c main_v3)) (k0_pay4 (F := Ideal) (V m c main_v5))
    (k0_pay7 (F := Ideal) (V m c main_v17)) where
  id f b := by
    have h := in_id m c H f b
    pointwise [k0_pay2]
    exact h
  val f b := by
    have h := in_val m c H f b
    pointwise [k0_pay3]
    exact h
  cid j b := by
    have h := in_cid m c H j b
    pointwise [k0_pay4]
    exact h
  prior r j := prior_apply _ I.p (in_prior m c H) r j

/-- The least confidence id, as the kernel finds it. -/
theorem in_least : extractAt ![0, 0, 0] (k0_pay5 (F := Ideal) (V m c main_v5)) inpos_S1x1x1_p0_0_0 = BitVec.ofNat 32 I.m.val := by
  have e : extractAt ![0, 0, 0] (k0_pay5 (F := Ideal) (V m c main_v5)) inpos_S1x1x1_p0_0_0 = k0_pay5 (F := Ideal) (V m c main_v5) (ix3 0 0 0) := by
    unfold extractAt; congr 1; funext a; fin_cases a <;> rfl
  rw [e]
  pointwise [k0_pay5]
  have h : ∀ x : Fin 10 × Fin 4096, k0_pay4 (F := Ideal) (V m c main_v5) (ix2 x.1 x.2) = BitVec.ofNat 32 (I.u x.2 x.1).val :=
    fun x => (in_rows m c H).cid x.1 x.2
  simp only [h]
  obtain ⟨b0, j0, hb⟩ := H.least
  exact fold_minsi_least (fun x : Fin 10 × Fin 4096 => I.u x.2 x.1) I.m (fun x => I.m_le x.2 x.1) ⟨(j0, b0), hb⟩

omit H in
/-- The global bias. -/
theorem in_glob :
    (V m c main_v18 : FVec Ideal S1x1 .f32) (ix2 0 0) = (m ((c.tc : Thread nD τ).loc main_arg4) : FVec Ideal S1 .f32) (ix1 0) := by
  unfold V V0
  after_reads_at

/-- What the kernel's body stores at column `b`: the score plus the global bias. -/
theorem body_apply (b : Fin 4096) :
    out0_8 (F := Ideal) (V m c main_v1) (V m c main_v3) (V m c main_v5) (V m c main_v8) (V m c main_v10) (V m c main_v14) (V m c main_v17)
        (V m c main_v18) (ix2 0 b)
      = ((I.score b : ℝ) : EReal) + (m ((c.tc : Thread nD τ).loc main_arg4) : FVec Ideal S1 .f32) (ix1 0) :=
  (body_value (in_rows m c H) (in_least m c H) (in_emb m c H) (in_ctab m c H) (in_bias m c H) b).trans
    (congrArg (((I.score b : ℝ) : EReal) + ·) (in_glob m c))

end

end Cert.Fm

end
-- ==== Proof.KernelRun.lean ====
/-
  The kernel's run, read at the result.

  The pallas_call has no grid: there is one point, and each window's block is its whole array.  So the body runs once
  on the arrays that the host operations prepared, what it stores is the whole result row, and the reshape after the
  call flattens that row.
-/
module

public import proofs.«01_k».proof.Proof.KernelEntry

@[expose] public section

set_option maxRecDepth 16384

noncomputable section

namespace Cert.Fm

open Idealize.ShloMosaic Cert.KernelIdeal Cert.KernelIdeal.Gen

variable (m : (ℓ : Loc nD τ sig) → Buf (Elt Ideal) ℓ) (ρ : Dev nD → PrngReg) (c : Dev nD)

/-! ## Each block read is the whole array -/

/-- The block of the ids is the array of the ids. -/
theorem block_id (t : Fin cfg0.N) : iblk m c 0 t = V m c main_v1 :=
  Memref.read_access_unit_zero (Elt Ideal) main_v1 (off := fun a => win0_0.index t a * win0_0.size a)
    (funext fun _ => Nat.zero_mul _) _ _

/-- The block of the feature values is the array of the feature values. -/
theorem block_val (t : Fin cfg0.N) : iblk m c 1 t = V m c main_v3 :=
  Memref.read_access_unit_zero (Elt Ideal) main_v3 (off := fun a => win0_1.index t a * win0_1.size a)
    (funext fun _ => Nat.zero_mul _) _ _

/-- The block of the confidence ids is the array of the confidence ids. -/
theorem block_cid (t : Fin cfg0.N) : iblk m c 2 t = V m c main_v5 :=
  Memref.read_access_unit_zero (Elt Ideal) main_v5 (off := fun a => win0_2.index t a * win0_2.size a)
    (funext fun _ => Nat.zero_mul _) _ _

/-- The block of the embedding table is the prepared embedding table. -/
theorem block_emb (t : Fin cfg0.N) : iblk m c 3 t = V m c main_v8 :=
  Memref.read_access_unit_zero (Elt Ideal) main_v8 (off := fun a => win0_3.index t a * win0_3.size a)
    (funext fun _ => Nat.zero_mul _) _ _

/-- The block of the confidence table is the prepared confidence table. -/
theorem block_ctab (t : Fin cfg0.N) : iblk m c 4 t = V m c main_v10 :=
  Memref.read_access_unit_zero (Elt Ideal) main_v10 (off := fun a => win0_4.index t a * win0_4.size a)
    (funext fun _ => Nat.zero_mul _) _ _

/-- The block of the biases is the prepared bias row. -/
theorem block_bias (t : Fin cfg0.N) : iblk m c 5 t = V m c main_v14 :=
  Memref.read_access_unit_zero (Elt Ideal) main_v14 (off := fun a => win0_5.index t a * win0_5.size a)
    (funext fun _ => Nat.zero_mul _) _ _

/-- The block of the priors is the prepared array of the priors and the table rows. -/
theorem block_prior (t : Fin cfg0.N) : iblk m c 6 t = V m c main_v17 :=
  Memref.read_access_unit_zero (Elt Ideal) main_v17 (off := fun a => win0_6.index t a * win0_6.size a)
    (funext fun _ => Nat.zero_mul _) _ _

/-- The block of the global bias is the one-element array of the global bias. -/
theorem block_glob (t : Fin cfg0.N) : iblk m c 7 t = V m c main_v18 :=
  Memref.read_access_unit_zero (Elt Ideal) main_v18 (off := fun a => win0_7.index t a * win0_7.size a)
    (funext fun _ => Nat.zero_mul _) _ _

/-- The block of the result, read out of any contents of the result row, is that row. -/
theorem block_out (t : Fin cfg0.N) (Y : Buf (Elt Ideal) ((c.tc : Thread nD τ).loc main_v19)) :
    (win0_8.blk t).view.read (Elt Ideal) Y = Y :=
  Memref.read_access_unit_zero (Elt Ideal) main_v19 (off := fun a => win0_8.index t a * win0_8.size a)
    (funext fun _ => Nat.zero_mul _) _ _

/-! ## The result row after the call -/

/-- The row that the body stores, as a function of the arrays that the call is entered with. -/
def row : Buf (Elt Ideal) ((c.tc : Thread nD τ).loc main_v19) :=
  out0_8 (F := Ideal) (V m c main_v1) (V m c main_v3) (V m c main_v5) (V m c main_v8) (V m c main_v10)
    (V m c main_v14) (V m c main_v17) (V m c main_v18)

/-- After the one point the result's staging buffer holds the row. -/
theorem after_out (t : Fin cfg0.N) : (dats m 0 c).after 8 t = row m c := by
  rw [after0_8, block_id, block_val, block_cid, block_emb, block_ctab, block_bias, block_prior, block_glob]
  rfl

/-- What the one point writes back is the row, read through its block. -/
theorem flushed_out (t : Fin cfg0.N) :
    (dats m 0 c).flushed 8 t = (win0_8.blk t).view.read (Elt Ideal) (row m c) := by
  rw [block_out c t]
  show (cfg0.win 8).cut (grid0.coords t) ((dats m 0 c).after 8 t) = _
  rw [after_out]

/-- The one block covers the result row. -/
theorem cover_out (i : S1x4096.Idx) :
    ∃ t : Fin cfg0.N, (cfg0.win 8).flush t = true ∧ i ∈ ((cfg0.win 8).blk t).view.set := by
  refine ⟨t0_0, flush0_8 _, ?_⟩
  show i ∈ ((View.whole main_v19).slice (win0_8.rect t0_0)).set
  rw [View.set_slice_whole, Rect.mem_set_unit]
  intro a
  refine ⟨(Nat.zero_mul _).trans_le (Nat.zero_le _), ?_⟩
  show (i a).val < 0 * _ + S1x4096.size a
  rw [Nat.zero_mul, Nat.zero_add]
  exact (i a).isLt

/-- So the call leaves the row in its result array. -/
theorem array_out : (dats m 0 c).arrAt 8 cfg0.N = row m c :=
  (dats m 0 c).arrAt_eq_of_cover 8 (row m c) (fun t _ => flushed_out m c t) cover_out

/-! ## The reshape after the call, and the run -/

/-- The reshape after the call leaves the flattened row in the program's result. -/
theorem tail_out : Pipeline.afterTail₀ cfgs (dats m) 0 (V0 m) [hostOps1] c main_v20
    = shapeCast S4096 (row m c : FVec Ideal S1x4096 .f32) shapeCasts_S1x4096_S4096 := by
  have e : Pipeline.withArrays (cfgs 0).spec c (V0 m c) (fun w => (dats m 0 c).arrAt w (cfgs 0).N)
      (Proc.devRef .tc main_v19) = row m c :=
    (Pipeline.withArrays_arr (cfgs 0).spec (by decide) c (V0 m c) (fun w => (dats m 0 c).arrAt w (cfgs 0).N) 8).trans
      (array_out m c)
  rw [← e]
  rfl

/-- A buffer that is no window's array, and that no later operation writes, ends as launched. -/
theorem kept {r : PUnit × MemSt nD τ sig (Elt Ideal)} {b : Ref sig .tc}
    (h : Pipeline.FramePost cfgs (dats m) 0 (Pipeline.afterTail₀ cfgs (dats m) 0 (V0 m) [hostOps1]) r)
    (hb : b ∈ Pipeline.restRefs sig (cfgs 0).spec)
    (e : Pipeline.afterTail₀ cfgs (dats m) 0 (V0 m) [hostOps1] c b = m ((c.tc : Thread nD τ).loc b)) :
    r.2.mem ((c.tc : Thread nD τ).loc b) = m ((c.tc : Thread nD τ).loc b) :=
  ((h c).2 b hb).trans e

/-- The kernel's run: it ends with every device's result the flattened row, and its arguments as launched. -/
theorem run_out : θ_run defs (onTc (τ := τ) (main (F := Ideal))) ⟨m, fun _ => 0, ρ⟩ (fun r => ∀ c : Dev nD,
      r.2.mem ((c.tc : Thread nD τ).loc main_v20)
          = shapeCast S4096 (row m c : FVec Ideal S1x4096 .f32) shapeCasts_S1x4096_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h c).2 main_v20 (Pipeline.mem_restRefs_of main_v20 (by decide) (by decide))).trans (tail_out m c),
        kept m c h (Pipeline.mem_restRefs_of main_arg0 (by decide) (by decide)) (W_main_arg0 m (dats m) c),
        kept m c h (Pipeline.mem_restRefs_of main_arg1 (by decide) (by decide)) (W_main_arg1 m (dats m) c),
        kept m c h (Pipeline.mem_restRefs_of main_arg2 (by decide) (by decide)) (W_main_arg2 m (dats m) c),
        kept m c h (Pipeline.mem_restRefs_of main_arg3 (by decide) (by decide)) (W_main_arg3 m (dats m) c),
        kept m c h (Pipeline.mem_restRefs_of main_arg4 (by decide) (by decide)) (W_main_arg4 m (dats m) c),
        kept m c h (Pipeline.mem_restRefs_of main_arg5 (by decide) (by decide)) (W_main_arg5 m (dats m) c),
        kept m c h (Pipeline.mem_restRefs_of main_arg6 (by decide) (by decide)) (W_main_arg6 m (dats m) c)⟩)
    (run_main m ρ)

/-- An entry of a flattened row is the row's. -/
theorem flat_apply (x : FVec Ideal S1x4096 .f32) (b : Fin 4096) :
    (shapeCast S4096 x shapeCasts_S1x4096_S4096) (ix1 b) = x (ix2 0 b) := by
  pointwise

/-- An entry of the flattened row is the score of its row plus the global bias. -/
theorem row_apply {I : Inputs}
    (H : Args I (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg5)) (m ((c.tc : Thread nD τ).loc main_arg6))) (b : Fin 4096) :
    (shapeCast S4096 (row m c : FVec Ideal S1x4096 .f32) shapeCasts_S1x4096_S4096) (ix1 b)
      = ((I.score b : ℝ) : EReal) + (m ((c.tc : Thread nD τ).loc main_arg4) : FVec Ideal S1 .f32) (ix1 0) :=
  (flat_apply (row m c) b).trans (body_apply m c H b)

end Cert.Fm

end
-- ==== Proof.Decode.lean ====
/- The precondition, read: where it is all ones, the arguments hold inputs of the model. -/
module

public import proofs.«01_k».proof.Proof.Reference
public import proofs.«01_k».proof.Proof.Gen.Pre_setup_range
public import Idealize.ShloMosaic.Lib.Tactic

@[expose] public section

set_option maxRecDepth 16384

noncomputable section

namespace Cert.Fm

open Idealize.ShloMosaic Cert.Pre_setup_range

/-- The f32 pattern of plus infinity. -/
theorem inf_word : Ideal.ofBits .f32 0x7F800000#32 = (⊤ : EReal) := by
  simp [Ideal.ofBits, Ideal.ieee]

/-- A value of absolute value below plus infinity is a real number. -/
theorem real_of_abs {x : EReal} (h : max x (-x) < ⊤) : ∃ r : ℝ, x = (r : EReal) := by
  induction x with
  | bot => simp at h
  | coe r => exact ⟨r, rfl⟩
  | top => simp at h

/-- A word that lies in 0 … 9 as a signed number is the word of a number below ten. -/
theorem id_of_range {w : BitVec 32} (h0 : (0 : Int) ≤ w.toInt) (h1 : w.toInt < 10) :
    ∃ n : Fin 10, w = BitVec.ofNat 32 n.val := by
  have hw : w.toNat < 10 := by
    rw [BitVec.toInt_eq_toNat_cond] at h0 h1
    have := w.isLt
    split at h0 <;> omega
  exact ⟨⟨w.toNat, hw⟩, by simp⟩

/-- The printed comparison of an absolute value with plus infinity, all ones, says the value is a real number. -/
theorem real_of_word {x : Ideal .f32}
    (e : BitVec.ofBool (decide (FloatOps.absf x < Ideal.ofBits .f32 0x7F800000#32)) = 1#1) :
    ∃ r : ℝ, x = (r : EReal) := by
  rw [inf_word] at e
  refine real_of_abs ?_
  by_contra hn
  have hn' : ¬ FloatOps.absf x < (⊤ : EReal) := hn
  rw [decide_eq_false hn'] at e
  exact absurd e (by decide)

/-- The printed range test of an id, all ones, says the id is the word of a number below ten. -/
theorem id_of_word {w : BitVec 32}
    (e : IntOp.andi (IntOp.cmpi CmpIPredicate.sge w 0#32) (IntOp.cmpi CmpIPredicate.slt w 10#32) = 1#1) :
    ∃ n : Fin 10, w = BitVec.ofNat 32 n.val := by
  simp only [IntOp.andi, IntOp.cmpi] at e
  have h0 : BitVec.sle 0#32 w = true := by
    cases h : BitVec.sle 0#32 w
    · simp [h] at e
    · rfl
  have h1 : BitVec.slt w 10#32 = true := by
    cases h : BitVec.slt w 10#32
    · simp [h] at e
    · rfl
  rw [BitVec.sle_eq_decide, decide_eq_true_eq] at h0
  rw [BitVec.slt_eq_decide, decide_eq_true_eq] at h1
  exact id_of_range h0 h1

variable (a0 : IVec S4096x110 32) (a1 : FVec Ideal S4096x110 .f32) (a2 : FVec Ideal S1000000x64 .f32)
  (a3 : FVec Ideal S1000000x1 .f32) (a4 : FVec Ideal S1 .f32) (a5 : FVec Ideal S10x64 .f32) (a6 : FVec Ideal S10x1 .f32)

/-- Every id is the word of a number below ten. -/
theorem pre_id (h : (fn (F := Ideal) a0 a1 a2 a3 a4 a5 a6).1 = fun _ => 1#1) (b : Fin 4096) (f : Fin 110) :
    ∃ n : Fin 10, a0 (ix2 b f) = BitVec.ofNat 32 n.val := by
  have e := congrFun h (ix2 b f)
  pointwise [fn, fn_part1] at e
  exact id_of_word e

/-- Every feature value is a real number. -/
theorem pre_val (h : (fn (F := Ideal) a0 a1 a2 a3 a4 a5 a6).2.1 = fun _ => 1#1) (b : Fin 4096) (f : Fin 110) :
    ∃ r : ℝ, a1 (ix2 b f) = (r : EReal) := by
  have e := congrFun h (ix2 b f)
  pointwise [fn, fn_part1] at e
  exact real_of_word e

/-- The embedding table's first ten rows are real numbers. -/
theorem pre_emb (h : (fn (F := Ideal) a0 a1 a2 a3 a4 a5 a6).2.2.1 = fun _ => 1#1) (g : Fin 10) (k : Fin 64) :
    ∃ r : ℝ, a2 (ix2 ⟨g.val, by omega⟩ k) = (r : EReal) := by
  have e := congrFun h (ix2 g k)
  pointwise [fn, fn_part1] at e
  exact real_of_word e

/-- The bias table's first ten entries are real numbers. -/
theorem pre_bias (h : (fn (F := Ideal) a0 a1 a2 a3 a4 a5 a6).2.2.2.1 = fun _ => 1#1) (g : Fin 10) :
    ∃ r : ℝ, a3 (ix2 ⟨g.val, by omega⟩ 0) = (r : EReal) := by
  have e := congrFun h (ix2 g (0 : Fin 1))
  pointwise [fn, fn_part1] at e
  exact real_of_word e

/-- The confidence table holds real numbers. -/
theorem pre_ctab (h : (fn (F := Ideal) a0 a1 a2 a3 a4 a5 a6).2.2.2.2.1 = fun _ => 1#1) (g : Fin 10) (k : Fin 64) :
    ∃ r : ℝ, a5 (ix2 g k) = (r : EReal) := by
  have e := congrFun h (ix2 g k)
  pointwise [fn, fn_part1] at e
  exact real_of_word e

/-- The confidence prior holds real numbers. -/
theorem pre_cprior (h : (fn (F := Ideal) a0 a1 a2 a3 a4 a5 a6).2.2.2.2.2 = fun _ => 1#1) (j : Fin 10) :
    ∃ r : ℝ, a6 (ix2 j 0) = (r : EReal) := by
  have e := congrFun h (ix2 j (0 : Fin 1))
  pointwise [fn, fn_part1] at e
  exact real_of_word e

/-- Some confidence id is the least of all rows. -/
theorem exists_least (n : Fin 4096 → Fin 110 → Fin 10) :
    ∃ (b0 : Fin 4096) (j0 : Fin 10), ∀ (b : Fin 4096) (j : Fin 10),
      (n b0 ⟨100 + j0.val, by omega⟩).val ≤ (n b ⟨100 + j.val, by omega⟩).val := by
  obtain ⟨x, hx⟩ := Finite.exists_min (fun x : Fin 4096 × Fin 10 => (n x.1 ⟨100 + x.2.val, by omega⟩).val)
  exact ⟨x.1, x.2, fun b j => hx (b, j)⟩

/-- Where the precondition is all ones, the arguments hold inputs of the model. -/
theorem args_of_pre
    (h : (fn (F := Ideal) a0 a1 a2 a3 a4 a5 a6).1 = (fun _ => 1#1)
      ∧ (fn (F := Ideal) a0 a1 a2 a3 a4 a5 a6).2.1 = (fun _ => 1#1)
      ∧ (fn (F := Ideal) a0 a1 a2 a3 a4 a5 a6).2.2.1 = (fun _ => 1#1)
      ∧ (fn (F := Ideal) a0 a1 a2 a3 a4 a5 a6).2.2.2.1 = (fun _ => 1#1)
      ∧ (fn (F := Ideal) a0 a1 a2 a3 a4 a5 a6).2.2.2.2.1 = (fun _ => 1#1)
      ∧ (fn (F := Ideal) a0 a1 a2 a3 a4 a5 a6).2.2.2.2.2 = (fun _ => 1#1)) :
    ∃ I : Inputs, Args I a0 a1 a2 a3 a5 a6 := by
  obtain ⟨h0, h1, h2, h3, h5, h6⟩ := h
  choose n hn using pre_id a0 a1 a2 a3 a4 a5 a6 h0
  choose v hv using pre_val a0 a1 a2 a3 a4 a5 a6 h1
  choose E hE using pre_emb a0 a1 a2 a3 a4 a5 a6 h2
  choose B hB using pre_bias a0 a1 a2 a3 a4 a5 a6 h3
  choose C hC using pre_ctab a0 a1 a2 a3 a4 a5 a6 h5
  choose p hp using pre_cprior a0 a1 a2 a3 a4 a5 a6 h6
  obtain ⟨b0, j0, h0⟩ := exists_least n
  refine ⟨⟨n, v, E, B, C, p, n b0 ⟨100 + j0.val, by omega⟩, h0⟩, ?_⟩
  refine ⟨hn, hv, fun g r k e => ?_, fun g r e => ?_, hC, hp, ⟨b0, j0, rfl⟩⟩
  · have er : r = ⟨g.val, by omega⟩ := Fin.ext e
    exact (congrArg (fun r' => a2 (ix2 r' k)) er).trans (hE g k)
  · have er : r = ⟨g.val, by omega⟩ := Fin.ext e
    exact (congrArg (fun r' => a3 (ix2 r' 0)) er).trans (hB g)

end Cert.Fm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_setup_range
public import proofs.«01_k».proof.Proof.KernelRun
public import proofs.«01_k».proof.Proof.Decode
public import Idealize.ShloMosaic.Adequacy
public import Idealize.ShloMosaic.Init

@[expose] public section

set_option maxRecDepth 16384

noncomputable section

namespace Cert.Proof

open Idealize.ShloMosaic Idealize.SL.Sem

/-- The reference runs to the end, its arguments as launched and every counter at zero: it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference end with the same scores, where `setup_range` holds of the arguments. -/
theorem same_scores : Cert.algebraic_KernelIdeal_ReferenceIdeal_pre_setup_range := by
  intro m ρ m' ρ' hpre hagree
  refine ⟨fun c => shapeCast Cert.KernelIdeal.S4096 (Cert.Fm.row m c : FVec Ideal Cert.KernelIdeal.S1x4096 .f32)
    Cert.KernelIdeal.Gen.shapeCasts_S1x4096_S4096, Cert.Fm.run_out m ρ, ?_⟩
  refine (θ_run Cert.ReferenceIdeal.defs _ _).mono (fun r h c => ⟨(h c).1.trans ?_, (h c).2⟩)
    (Cert.ReferenceIdeal.Value.run (F := Ideal) m' ρ')
  obtain ⟨I, H⟩ := Cert.Fm.args_of_pre _ _ _ _ _ _ _ (hpre c)
  obtain ⟨e0, e1, e2, e3, e4, e5, e6⟩ := hagree c
  have H' := H
  rw [← e0, ← e1, ← e2, ← e3, ← e5, ← e6] at H'
  funext i
  obtain ⟨b, rfl⟩ : ∃ b : Fin 4096, i = ix1 b := ⟨i 0, by funext a; fin_cases a; rfl⟩
  refine (Cert.Fm.reference_apply (StableHlo.launchContents m' c) H' b).trans ?_
  refine Eq.trans ?_ (Cert.Fm.row_apply m c H b).symm
  exact congrArg (fun x : FVec Ideal Cert.ReferenceIdeal.S1 .f32 => ((I.score b : ℝ) : EReal) + x (ix1 0)) e4

/-- The certificate's claim: the three frames (the two ideal ones also under the precondition), the kernel's ideal
    program, and the equation of the scores. -/
theorem claim : Cert.Claim :=
  ⟨Cert.Kernel.Gen.facts, Cert.KernelIdeal.Gen.facts, Cert.ReferenceIdeal.Gen.facts, Cert.Pre_setup_range.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    same_scores⟩

end Cert.Proof

end
